-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x128x128 : Shape := ⟨4, ![4, 96, 128, 128]⟩
abbrev S96x96 : Shape := ⟨2, ![96, 96]⟩
abbrev S1x96x128x128 : Shape := ⟨4, ![1, 96, 128, 128]⟩
abbrev S96x128x128 : Shape := ⟨3, ![96, 128, 128]⟩
abbrev S128x128 : Shape := ⟨2, ![128, 128]⟩
abbrev S96x16384 : Shape := ⟨2, ![96, 16384]⟩
abbrev S96x1 : Shape := ⟨2, ![96, 1]⟩
abbrev S96x16383 : Shape := ⟨2, ![96, 16383]⟩
abbrev S96x128 : Shape := ⟨2, ![96, 128]⟩
abbrev S96x16256 : Shape := ⟨2, ![96, 16256]⟩
abbrev S8x96 : Shape := ⟨2, ![8, 96]⟩
abbrev S8x16384 : Shape := ⟨2, ![8, 16384]⟩
abbrev S1x16384 : Shape := ⟨2, ![1, 16384]⟩
abbrev S96x1x128 : Shape := ⟨3, ![96, 1, 128]⟩
abbrev S96x128x1 : Shape := ⟨3, ![96, 128, 1]⟩
abbrev S96x1x1 : Shape := ⟨3, ![96, 1, 1]⟩
abbrev S96x127x1 : Shape := ⟨3, ![96, 127, 1]⟩
abbrev S96x1x127 : Shape := ⟨3, ![96, 1, 127]⟩
abbrev S1x128 : Shape := ⟨2, ![1, 128]⟩
abbrev S96x1x2 : Shape := ⟨3, ![96, 1, 2]⟩
abbrev S96x1x126 : Shape := ⟨3, ![96, 1, 126]⟩
abbrev S128x1 : Shape := ⟨2, ![128, 1]⟩
abbrev S127x128 : Shape := ⟨2, ![127, 128]⟩
abbrev S128x127 : Shape := ⟨2, ![128, 127]⟩
abbrev S128x126 : Shape := ⟨2, ![128, 126]⟩
abbrev S128x2 : Shape := ⟨2, ![128, 2]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x96x128x128, .f32⟩
  | .hbm, ⟨1, _⟩ => ⟨S96x96, .f32⟩
  | .hbm, ⟨2, _⟩ => ⟨S96x96, .f32⟩
  | .hbm, ⟨3, _⟩ => ⟨S96x96, .bf16⟩
  | .hbm, ⟨4, _⟩ => ⟨S4x96x128x128, .f32⟩
  | .local _ .vmem, ⟨0, _⟩ => ⟨S96x96, .bf16⟩
  | .local _ .vmem, ⟨1, _⟩ => ⟨S1x96x128x128, .f32⟩
  | .local _ .vmem, ⟨2, _⟩ => ⟨S1x96x128x128, .f32⟩
  | .local _ .vmem, ⟨3, _⟩ => ⟨S1x96x128x128, .f32⟩
  | .local _ .vmem, ⟨4, _⟩ => ⟨S1x96x128x128, .f32⟩
  | _, _ => ⟨S4x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S96x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x96x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x96x128x128 : Shape := ⟨4, ![4, 96, 128, 128]⟩
abbrev S96x96 : Shape := ⟨2, ![96, 96]⟩
abbrev S4x96x16384 : Shape := ⟨3, ![4, 96, 16384]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x1x128x128 : Shape := ⟨4, ![1, 1, 128, 128]⟩
abbrev S4x96x128x128x1 : Shape := ⟨5, ![4, 96, 128, 128, 1]⟩
abbrev S1 : Shape := ⟨1, ![1]⟩
abbrev S1x1x1x1x1 : Shape := ⟨5, ![1, 1, 1, 1, 1]⟩
abbrev S4x1x96x16384 : Shape := ⟨4, ![4, 1, 96, 16384]⟩
abbrev S4x8x96x16384 : Shape := ⟨4, ![4, 8, 96, 16384]⟩
abbrev S4x8x96x16385 : Shape := ⟨4, ![4, 8, 96, 16385]⟩
abbrev S4x8x16384 : Shape := ⟨3, ![4, 8, 16384]⟩
abbrev S4x8x1x16384 : Shape := ⟨4, ![4, 8, 1, 16384]⟩
abbrev S96x4x128x128 : Shape := ⟨4, ![96, 4, 128, 128]⟩

abbrev nBuf : Space → Nat
  | .hbm => 300
  | .vmem => 0
  | .smem => 0
  | _ => 0

abbrev hbmTy0_0 (i : Nat) : BufTy := match i % 128 with
  | 0 => ⟨S4x96x128x128, .f32⟩
  | 1 => ⟨S96x96, .f32⟩
  | 2 => ⟨S4x96x16384, .f32⟩
  | 3 => ⟨S4x96x128x128, .f32⟩
  | 4 => ⟨S4x96x16384, .f32⟩
  | 5 => ⟨S4x96x16384, .f32⟩
  | 6 => ⟨S4x96x16384, .f32⟩
  | 7 => ⟨S128, .i32⟩
  | 8 => ⟨S128x1, .i32⟩
  | 9 => ⟨S128, .i32⟩
  | 10 => ⟨S1x128, .i32⟩
  | 11 => ⟨S128x128, .i32⟩
  | 12 => ⟨S128x128, .i32⟩
  | 13 => ⟨S128x128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S128x128, .i32⟩
  | 21 => ⟨S128x128, .i32⟩
  | 22 => ⟨S_, .i32⟩
  | 23 => ⟨S128x128, .i32⟩
  | 24 => ⟨S128x128, .i1⟩
  | 25 => ⟨S_, .i32⟩
  | 26 => ⟨S128x128, .i32⟩
  | 27 => ⟨S128x128, .i1⟩
  | 28 => ⟨S_, .i32⟩
  | 29 => ⟨S_, .i1⟩
  | 30 => ⟨S128x128, .i1⟩
  | 31 => ⟨S128x128, .i1⟩
  | 32 => ⟨S128x128, .i1⟩
  | 33 => ⟨S128x128, .i32⟩
  | 34 => ⟨S128x128, .i32⟩
  | 35 => ⟨S128x128, .i32⟩
  | 36 => ⟨S1x1x128x128, .i32⟩
  | 37 => ⟨S4x96x128x128, .i32⟩
  | 38 => ⟨S_, .i32⟩
  | 39 => ⟨S4x96x128x128, .i32⟩
  | 40 => ⟨S4x96x128x128, .i1⟩
  | 41 => ⟨S_, .i32⟩
  | 42 => ⟨S4x96x128x128, .i32⟩
  | 43 => ⟨S4x96x128x128, .i32⟩
  | 44 => ⟨S4x96x128x128, .i32⟩
  | 45 => ⟨S4x96x128x128x1, .i32⟩
  | 46 => ⟨S1, .i32⟩
  | 47 => ⟨S_, .i32⟩
  | 48 => ⟨S4x96x128x128x1, .i32⟩
  | 49 => ⟨S4x96x128x128x1, .i1⟩
  | 50 => ⟨S1x1x1x1x1, .i32⟩
  | 51 => ⟨S4x96x128x128x1, .i32⟩
  | 52 => ⟨S4x96x128x128x1, .i1⟩
  | 53 => ⟨S4x96x128x128x1, .i1⟩
  | 54 => ⟨S_, .i1⟩
  | 55 => ⟨S4x96x128x128, .i1⟩
  | 56 => ⟨S4x96x128x128, .f32⟩
  | 57 => ⟨S_, .f32⟩
  | 58 => ⟨S4x96x128x128, .f32⟩
  | 59 => ⟨S4x96x128x128, .f32⟩
  | 60 => ⟨S4x96x128x128, .f32⟩
  | 61 => ⟨S4x96x16384, .f32⟩
  | 62 => ⟨S128, .i32⟩
  | 63 => ⟨S1x128, .i32⟩
  | 64 => ⟨S128, .i32⟩
  | 65 => ⟨S128x1, .i32⟩
  | 66 => ⟨S128x128, .i32⟩
  | 67 => ⟨S128x128, .i32⟩
  | 68 => ⟨S128x128, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S128x128, .i32⟩
  | 76 => ⟨S128x128, .i32⟩
  | 77 => ⟨S_, .i32⟩
  | 78 => ⟨S128x128, .i32⟩
  | 79 => ⟨S128x128, .i1⟩
  | 80 => ⟨S_, .i32⟩
  | 81 => ⟨S128x128, .i32⟩
  | 82 => ⟨S128x128, .i1⟩
  | 83 => ⟨S_, .i32⟩
  | 84 => ⟨S_, .i1⟩
  | 85 => ⟨S128x128, .i1⟩
  | 86 => ⟨S128x128, .i1⟩
  | 87 => ⟨S128x128, .i1⟩
  | 88 => ⟨S128x128, .i32⟩
  | 89 => ⟨S128x128, .i32⟩
  | 90 => ⟨S128x128, .i32⟩
  | 91 => ⟨S1x1x128x128, .i32⟩
  | 92 => ⟨S4x96x128x128, .i32⟩
  | 93 => ⟨S_, .i32⟩
  | 94 => ⟨S4x96x128x128, .i32⟩
  | 95 => ⟨S4x96x128x128, .i1⟩
  | 96 => ⟨S_, .i32⟩
  | 97 => ⟨S4x96x128x128, .i32⟩
  | 98 => ⟨S4x96x128x128, .i32⟩
  | 99 => ⟨S4x96x128x128, .i32⟩
  | 100 => ⟨S4x96x128x128x1, .i32⟩
  | 101 => ⟨S1, .i32⟩
  | 102 => ⟨S_, .i32⟩
  | 103 => ⟨S4x96x128x128x1, .i32⟩
  | 104 => ⟨S4x96x128x128x1, .i1⟩
  | 105 => ⟨S1x1x1x1x1, .i32⟩
  | 106 => ⟨S4x96x128x128x1, .i32⟩
  | 107 => ⟨S4x96x128x128x1, .i1⟩
  | 108 => ⟨S4x96x128x128x1, .i1⟩
  | 109 => ⟨S_, .i1⟩
  | 110 => ⟨S4x96x128x128, .i1⟩
  | 111 => ⟨S4x96x128x128, .f32⟩
  | 112 => ⟨S_, .f32⟩
  | 113 => ⟨S4x96x128x128, .f32⟩
  | 114 => ⟨S4x96x128x128, .f32⟩
  | 115 => ⟨S4x96x128x128, .f32⟩
  | 116 => ⟨S4x96x16384, .f32⟩
  | 117 => ⟨S4x96x16384, .f32⟩
  | 118 => ⟨S4x96x16384, .f32⟩
  | 119 => ⟨S4x1x96x16384, .f32⟩
  | 120 => ⟨S4x1x96x16384, .f32⟩
  | 121 => ⟨S4x1x96x16384, .f32⟩
  | 122 => ⟨S4x1x96x16384, .f32⟩
  | 123 => ⟨S4x1x96x16384, .f32⟩
  | 124 => ⟨S4x1x96x16384, .f32⟩
  | 125 => ⟨S4x1x96x16384, .f32⟩
  | 126 => ⟨S4x1x96x16384, .f32⟩
  | 127 => ⟨S4x8x96x16384, .f32⟩
  | _ => ⟨S4x96x128x128, .f32⟩

abbrev hbmTy0_1 (i : Nat) : BufTy := match i % 128 with
  | 0 => ⟨S_, .i32⟩
  | 1 => ⟨S_, .f32⟩
  | 2 => ⟨S4x8x96x16385, .f32⟩
  | 3 => ⟨S4x8x96x16384, .f32⟩
  | 4 => ⟨S4x8x96x16384, .f32⟩
  | 5 => ⟨S4x8x96x16384, .f32⟩
  | 6 => ⟨S_, .f32⟩
  | 7 => ⟨S4x8x16384, .f32⟩
  | 8 => ⟨S4x8x1x16384, .f32⟩
  | 9 => ⟨S_, .f32⟩
  | 10 => ⟨S4x8x1x16384, .f32⟩
  | 11 => ⟨S4x8x1x16384, .f32⟩
  | 12 => ⟨S4x8x1x16384, .f32⟩
  | 13 => ⟨S4x8x1x16384, .f32⟩
  | 14 => ⟨S_, .f32⟩
  | 15 => ⟨S4x8x1x16384, .f32⟩
  | 16 => ⟨S4x8x1x16384, .f32⟩
  | 17 => ⟨S_, .f32⟩
  | 18 => ⟨S4x8x1x16384, .f32⟩
  | 19 => ⟨S4x8x1x16384, .f32⟩
  | 20 => ⟨S4x8x96x16384, .f32⟩
  | 21 => ⟨S4x8x96x16384, .f32⟩
  | 22 => ⟨S4x1x96x16384, .f32⟩
  | 23 => ⟨S4x96x16384, .f32⟩
  | 24 => ⟨S4x1x96x16384, .f32⟩
  | 25 => ⟨S4x96x16384, .f32⟩
  | 26 => ⟨S4x96x16384, .f32⟩
  | 27 => ⟨S4x96x16384, .f32⟩
  | 28 => ⟨S4x1x96x16384, .f32⟩
  | 29 => ⟨S4x96x16384, .f32⟩
  | 30 => ⟨S4x1x96x16384, .f32⟩
  | 31 => ⟨S4x96x16384, .f32⟩
  | 32 => ⟨S4x96x16384, .f32⟩
  | 33 => ⟨S4x96x16384, .f32⟩
  | 34 => ⟨S4x96x128x128, .f32⟩
  | 35 => ⟨S4x96x128x128, .f32⟩
  | 36 => ⟨S4x96x16384, .f32⟩
  | 37 => ⟨S4x96x16384, .f32⟩
  | 38 => ⟨S4x96x128x128, .f32⟩
  | 39 => ⟨S4x1x96x16384, .f32⟩
  | 40 => ⟨S4x96x16384, .f32⟩
  | 41 => ⟨S4x1x96x16384, .f32⟩
  | 42 => ⟨S4x96x16384, .f32⟩
  | 43 => ⟨S4x96x16384, .f32⟩
  | 44 => ⟨S4x96x16384, .f32⟩
  | 45 => ⟨S4x1x96x16384, .f32⟩
  | 46 => ⟨S4x96x16384, .f32⟩
  | 47 => ⟨S4x1x96x16384, .f32⟩
  | 48 => ⟨S4x96x16384, .f32⟩
  | 49 => ⟨S4x96x16384, .f32⟩
  | 50 => ⟨S4x96x16384, .f32⟩
  | 51 => ⟨S128, .i32⟩
  | 52 => ⟨S128x1, .i32⟩
  | 53 => ⟨S128, .i32⟩
  | 54 => ⟨S1x128, .i32⟩
  | 55 => ⟨S128x128, .i32⟩
  | 56 => ⟨S128x128, .i32⟩
  | 57 => ⟨S128x128, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128x128, .i32⟩
  | 65 => ⟨S128x128, .i32⟩
  | 66 => ⟨S_, .i32⟩
  | 67 => ⟨S128x128, .i32⟩
  | 68 => ⟨S128x128, .i1⟩
  | 69 => ⟨S_, .i32⟩
  | 70 => ⟨S128x128, .i32⟩
  | 71 => ⟨S128x128, .i1⟩
  | 72 => ⟨S_, .i32⟩
  | 73 => ⟨S_, .i1⟩
  | 74 => ⟨S128x128, .i1⟩
  | 75 => ⟨S128x128, .i1⟩
  | 76 => ⟨S128x128, .i1⟩
  | 77 => ⟨S128x128, .i32⟩
  | 78 => ⟨S128x128, .i32⟩
  | 79 => ⟨S128x128, .i32⟩
  | 80 => ⟨S128x128, .i32⟩
  | 81 => ⟨S128x128, .i32⟩
  | 82 => ⟨S128x128, .i32⟩
  | 83 => ⟨S4x96x128x128, .f32⟩
  | 84 => ⟨S4x96x128x128, .f32⟩
  | 85 => ⟨S1x1x128x128, .i32⟩
  | 86 => ⟨S4x96x128x128, .i32⟩
  | 87 => ⟨S_, .i32⟩
  | 88 => ⟨S4x96x128x128, .i32⟩
  | 89 => ⟨S4x96x128x128, .i1⟩
  | 90 => ⟨S_, .i32⟩
  | 91 => ⟨S4x96x128x128, .i32⟩
  | 92 => ⟨S4x96x128x128, .i32⟩
  | 93 => ⟨S4x96x128x128, .i32⟩
  | 94 => ⟨S4x96x128x128x1, .i32⟩
  | 95 => ⟨S1, .i32⟩
  | 96 => ⟨S_, .i32⟩
  | 97 => ⟨S4x96x128x128x1, .i32⟩
  | 98 => ⟨S4x96x128x128x1, .i1⟩
  | 99 => ⟨S1x1x1x1x1, .i32⟩
  | 100 => ⟨S4x96x128x128x1, .i32⟩
  | 101 => ⟨S4x96x128x128x1, .i1⟩
  | 102 => ⟨S4x96x128x128x1, .i1⟩
  | 103 => ⟨S_, .i1⟩
  | 104 => ⟨S4x96x128x128, .i1⟩
  | 105 => ⟨S4x96x128x128, .f32⟩
  | 106 => ⟨S_, .f32⟩
  | 107 => ⟨S4x96x128x128, .f32⟩
  | 108 => ⟨S4x96x128x128, .f32⟩
  | 109 => ⟨S128, .i32⟩
  | 110 => ⟨S1x128, .i32⟩
  | 111 => ⟨S128, .i32⟩
  | 112 => ⟨S128x1, .i32⟩
  | 113 => ⟨S128x128, .i32⟩
  | 114 => ⟨S128x128, .i32⟩
  | 115 => ⟨S128x128, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S128x128, .i32⟩
  | 123 => ⟨S128x128, .i32⟩
  | 124 => ⟨S_, .i32⟩
  | 125 => ⟨S128x128, .i32⟩
  | 126 => ⟨S128x128, .i1⟩
  | 127 => ⟨S_, .i32⟩
  | _ => ⟨S4x96x128x128, .f32⟩

abbrev hbmTy0_2 (i : Nat) : BufTy := match i % 128 with
  | 0 => ⟨S128x128, .i32⟩
  | 1 => ⟨S128x128, .i1⟩
  | 2 => ⟨S_, .i32⟩
  | 3 => ⟨S_, .i1⟩
  | 4 => ⟨S128x128, .i1⟩
  | 5 => ⟨S128x128, .i1⟩
  | 6 => ⟨S128x128, .i1⟩
  | 7 => ⟨S128x128, .i32⟩
  | 8 => ⟨S128x128, .i32⟩
  | 9 => ⟨S128x128, .i32⟩
  | 10 => ⟨S128x128, .i32⟩
  | 11 => ⟨S128x128, .i32⟩
  | 12 => ⟨S128x128, .i32⟩
  | 13 => ⟨S4x96x128x128, .f32⟩
  | 14 => ⟨S4x96x128x128, .f32⟩
  | 15 => ⟨S1x1x128x128, .i32⟩
  | 16 => ⟨S4x96x128x128, .i32⟩
  | 17 => ⟨S_, .i32⟩
  | 18 => ⟨S4x96x128x128, .i32⟩
  | 19 => ⟨S4x96x128x128, .i1⟩
  | 20 => ⟨S_, .i32⟩
  | 21 => ⟨S4x96x128x128, .i32⟩
  | 22 => ⟨S4x96x128x128, .i32⟩
  | 23 => ⟨S4x96x128x128, .i32⟩
  | 24 => ⟨S4x96x128x128x1, .i32⟩
  | 25 => ⟨S1, .i32⟩
  | 26 => ⟨S_, .i32⟩
  | 27 => ⟨S4x96x128x128x1, .i32⟩
  | 28 => ⟨S4x96x128x128x1, .i1⟩
  | 29 => ⟨S1x1x1x1x1, .i32⟩
  | 30 => ⟨S4x96x128x128x1, .i32⟩
  | 31 => ⟨S4x96x128x128x1, .i1⟩
  | 32 => ⟨S4x96x128x128x1, .i1⟩
  | 33 => ⟨S_, .i1⟩
  | 34 => ⟨S4x96x128x128, .i1⟩
  | 35 => ⟨S4x96x128x128, .f32⟩
  | 36 => ⟨S_, .f32⟩
  | 37 => ⟨S4x96x128x128, .f32⟩
  | 38 => ⟨S4x96x128x128, .f32⟩
  | 39 => ⟨S4x96x128x128, .f32⟩
  | 40 => ⟨S4x96x128x128, .f32⟩
  | 41 => ⟨S96x4x128x128, .f32⟩
  | 42 => ⟨S4x96x128x128, .f32⟩
  | 43 => ⟨S4x96x128x128, .f32⟩
  | _ => ⟨S4x96x128x128, .f32⟩

abbrev hbmTy (i : Nat) : BufTy := match i / 128 with
  | 0 => hbmTy0_0 i
  | 1 => hbmTy0_1 i
  | 2 => hbmTy0_2 i
  | _ => ⟨S4x96x128x128, .f32⟩

abbrev bufTy : (tb : Table) → Fin (tcTables nBuf tb) → BufTy
  | .hbm, ⟨i, _⟩ => hbmTy i
  | _, _ => ⟨S4x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_0 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_cst : Ref sig .tc := ⟨.hbm, 112, rfl⟩
abbrev main_call3_v14 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_c_1 : Ref sig .tc := ⟨.hbm, 128, rfl⟩
abbrev main_call4_v0 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_cst : Ref sig .tc := ⟨.hbm, 134, rfl⟩
abbrev main_v46 : Ref sig .tc := ⟨.hbm, 135, rfl⟩
abbrev main_v47 : Ref sig .tc := ⟨.hbm, 136, rfl⟩
abbrev main_cst_2 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_cst_3 : Ref sig .tc := ⟨.hbm, 142, rfl⟩
abbrev main_v52 : Ref sig .tc := ⟨.hbm, 143, rfl⟩
abbrev main_v53 : Ref sig .tc := ⟨.hbm, 144, rfl⟩
abbrev main_cst_4 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_c_5 : Ref sig .tc := ⟨.hbm, 186, rfl⟩
abbrev main_call5_v0 : Ref sig .tc := ⟨.hbm, 187, rfl⟩
abbrev main_call5_c : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_c_1 : Ref sig .tc := ⟨.hbm, 194, rfl⟩
abbrev main_call5_v5 : Ref sig .tc := ⟨.hbm, 195, rfl⟩
abbrev main_call5_v6 : Ref sig .tc := ⟨.hbm, 196, rfl⟩
abbrev main_call5_c_2 : Ref sig .tc := ⟨.hbm, 197, rfl⟩
abbrev main_call5_v7 : Ref sig .tc := ⟨.hbm, 198, rfl⟩
abbrev main_call5_v8 : Ref sig .tc := ⟨.hbm, 199, rfl⟩
abbrev main_call5_c_3 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_v94 : Ref sig .tc := ⟨.hbm, 207, rfl⟩
abbrev main_call6_v0 : Ref sig .tc := ⟨.hbm, 208, rfl⟩
abbrev main_call6_v1_0 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_call7_c : Ref sig .tc := ⟨.hbm, 215, rfl⟩
abbrev main_call7_v0 : Ref sig .tc := ⟨.hbm, 216, rfl⟩
abbrev main_call7_v1 : Ref sig .tc := ⟨.hbm, 217, rfl⟩
abbrev main_call7_c_0 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_call7_v5 : Ref sig .tc := ⟨.hbm, 222, rfl⟩
abbrev main_call7_c_1 : Ref sig .tc := ⟨.hbm, 223, rfl⟩
abbrev main_call7_c_2 : Ref sig .tc := ⟨.hbm, 224, rfl⟩
abbrev main_call7_v6 : Ref sig .tc := ⟨.hbm, 225, rfl⟩
abbrev main_call7_v7 : Ref sig .tc := ⟨.hbm, 226, rfl⟩
abbrev main_call7_v8 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_c_3 : Ref sig .tc := ⟨.hbm, 231, rfl⟩
abbrev main_call7_v12 : Ref sig .tc := ⟨.hbm, 232, rfl⟩
abbrev main_call7_v13 : Ref sig .tc := ⟨.hbm, 233, rfl⟩
abbrev main_call7_cst : Ref sig .tc := ⟨.hbm, 234, rfl⟩
abbrev main_call7_v14 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_c_6 : Ref sig .tc := ⟨.hbm, 244, rfl⟩
abbrev main_call8_v0 : Ref sig .tc := ⟨.hbm, 245, rfl⟩
abbrev main_call8_c : Ref sig .tc := ⟨.hbm, 246, rfl⟩
abbrev main_call8_v1 : Ref sig .tc := ⟨.hbm, 247, rfl⟩
abbrev main_call8_c_0 : Ref sig .tc := ⟨.hbm, 248, rfl⟩
abbrev main_call8_v2 : Ref sig .tc := ⟨.hbm, 249, rfl⟩
abbrev main_call8_v3 : Ref sig .tc := ⟨.hbm, 250, rfl⟩
abbrev main_call8_v4 : Ref sig .tc := ⟨.hbm, 251, rfl⟩
abbrev main_call8_c_1 : Ref sig .tc := ⟨.hbm, 252, rfl⟩
abbrev main_call8_v5 : Ref sig .tc := ⟨.hbm, 253, rfl⟩
abbrev main_call8_v6 : Ref sig .tc := ⟨.hbm, 254, rfl⟩
abbrev main_call8_c_2 : Ref sig .tc := ⟨.hbm, 255, rfl⟩
abbrev main_call8_v7 : Ref sig .tc := ⟨.hbm, 256, rfl⟩
abbrev main_call8_v8 : Ref sig .tc := ⟨.hbm, 257, rfl⟩
abbrev main_call8_c_3 : Ref sig .tc := ⟨.hbm, 258, rfl⟩
abbrev main_call8_v9 : Ref sig .tc := ⟨.hbm, 259, rfl⟩
abbrev main_call8_v10 : Ref sig .tc := ⟨.hbm, 260, rfl⟩
abbrev main_call8_v11 : Ref sig .tc := ⟨.hbm, 261, rfl⟩
abbrev main_call8_v12 : Ref sig .tc := ⟨.hbm, 262, rfl⟩
abbrev main_call8_v13 : Ref sig .tc := ⟨.hbm, 263, rfl⟩
abbrev main_call8_v14 : Ref sig .tc := ⟨.hbm, 264, rfl⟩
abbrev main_v108 : Ref sig .tc := ⟨.hbm, 265, rfl⟩
abbrev main_call9_v0 : Ref sig .tc := ⟨.hbm, 266, rfl⟩
abbrev main_call9_v1_0 : Ref sig .tc := ⟨.hbm, 267, rfl⟩
abbrev main_v109 : Ref sig .tc := ⟨.hbm, 268, rfl⟩
abbrev main_v110 : Ref sig .tc := ⟨.hbm, 269, rfl⟩
abbrev main_v111 : Ref sig .tc := ⟨.hbm, 270, rfl⟩
abbrev main_v112 : Ref sig .tc := ⟨.hbm, 271, rfl⟩
abbrev main_v113 : Ref sig .tc := ⟨.hbm, 272, rfl⟩
abbrev main_call10_c : Ref sig .tc := ⟨.hbm, 273, rfl⟩
abbrev main_call10_v0 : Ref sig .tc := ⟨.hbm, 274, rfl⟩
abbrev main_call10_v1 : Ref sig .tc := ⟨.hbm, 275, rfl⟩
abbrev main_call10_c_0 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_call10_v5 : Ref sig .tc := ⟨.hbm, 280, rfl⟩
abbrev main_call10_c_1 : Ref sig .tc := ⟨.hbm, 281, rfl⟩
abbrev main_call10_c_2 : Ref sig .tc := ⟨.hbm, 282, rfl⟩
abbrev main_call10_v6 : Ref sig .tc := ⟨.hbm, 283, rfl⟩
abbrev main_call10_v7 : Ref sig .tc := ⟨.hbm, 284, rfl⟩
abbrev main_call10_v8 : Ref sig .tc := ⟨.hbm, 285, rfl⟩
abbrev main_call10_v9 : Ref sig .tc := ⟨.hbm, 286, rfl⟩
abbrev main_call10_v10 : Ref sig .tc := ⟨.hbm, 287, rfl⟩
abbrev main_call10_v11 : Ref sig .tc := ⟨.hbm, 288, rfl⟩
abbrev main_call10_c_3 : Ref sig .tc := ⟨.hbm, 289, rfl⟩
abbrev main_call10_v12 : Ref sig .tc := ⟨.hbm, 290, rfl⟩
abbrev main_call10_v13 : Ref sig .tc := ⟨.hbm, 291, rfl⟩
abbrev main_call10_cst : Ref sig .tc := ⟨.hbm, 292, rfl⟩
abbrev main_call10_v14 : Ref sig .tc := ⟨.hbm, 293, rfl⟩
abbrev main_v114 : Ref sig .tc := ⟨.hbm, 294, rfl⟩
abbrev main_v115 : Ref sig .tc := ⟨.hbm, 295, rfl⟩
abbrev main_v116 : Ref sig .tc := ⟨.hbm, 296, rfl⟩
abbrev main_v117 : Ref sig .tc := ⟨.hbm, 297, rfl⟩
abbrev main_v118 : Ref sig .tc := ⟨.hbm, 298, rfl⟩
abbrev main_v119 : Ref sig .tc := ⟨.hbm, 299, rfl⟩

abbrev nD : Nat := 1
abbrev τ : Topo := Topo.v7x

variable {F : FTy → Type} [FloatOps F]
-- ==== Proof.Reads.lean ====
/-
  Reading an array by natural-number coordinates. `R2 x f` says: the rank-2 array `x` holds `f a b` at row `a`, column
  `b`; `R3`, `R4` likewise. Each layout operation turns one such reading into another, so a chain of slices,
  concatenations, shape casts and reductions becomes a formula in the coordinates.
-/
module

public import Idealize.ShloMosaic.Lib.Pipeline.Value
public import Idealize.ShloMosaic.Lib.ValueIdx
public import Idealize.ShloMosaic.PureOps.Ideal.Laws

@[expose] public section

namespace Scan

open Idealize.ShloMosaic Idealize.ShloMosaic.ValueIdx

variable {α β γ δ : Type}

/-- The rank-2 array `x` holds `f a b` at coordinates `(a, b)`. -/
def R2 {d : Fin 2 → ℕ} (x : (⟨2, d⟩ : Shape).Idx → α) (f : ℕ → ℕ → α) : Prop :=
  ∀ i, x i = f (i 0).val (i 1).val

/-- The rank-3 array `x` holds `f a b c` at coordinates `(a, b, c)`. -/
def R3 {d : Fin 3 → ℕ} (x : (⟨3, d⟩ : Shape).Idx → α) (f : ℕ → ℕ → ℕ → α) : Prop :=
  ∀ i, x i = f (i 0).val (i 1).val (i 2).val

/-- The rank-4 array `x` holds `f a b c e` at coordinates `(a, b, c, e)`. -/
def R4 {d : Fin 4 → ℕ} (x : (⟨4, d⟩ : Shape).Idx → α) (f : ℕ → ℕ → ℕ → ℕ → α) : Prop :=
  ∀ i, x i = f (i 0).val (i 1).val (i 2).val (i 3).val

/-! ## Changing the formula inside the extents -/

/-- The formula may be replaced by one that agrees with it inside the extents. -/
theorem R2.congr {d : Fin 2 → ℕ} {x : (⟨2, d⟩ : Shape).Idx → α} {f g : ℕ → ℕ → α} (h : R2 x f)
    (e : ∀ a b, a < d 0 → b < d 1 → f a b = g a b) : R2 x g :=
  fun i => (h i).trans (e _ _ (i 0).isLt (i 1).isLt)

/-- The formula may be replaced by one that agrees with it inside the extents. -/
theorem R3.congr {d : Fin 3 → ℕ} {x : (⟨3, d⟩ : Shape).Idx → α} {f g : ℕ → ℕ → ℕ → α} (h : R3 x f)
    (e : ∀ a b c, a < d 0 → b < d 1 → c < d 2 → f a b c = g a b c) : R3 x g :=
  fun i => (h i).trans (e _ _ _ (i 0).isLt (i 1).isLt (i 2).isLt)

/-- The formula may be replaced by one that agrees with it inside the extents. -/
theorem R4.congr {d : Fin 4 → ℕ} {x : (⟨4, d⟩ : Shape).Idx → α} {f g : ℕ → ℕ → ℕ → ℕ → α} (h : R4 x f)
    (e : ∀ a b c k, a < d 0 → b < d 1 → c < d 2 → k < d 3 → f a b c k = g a b c k) : R4 x g :=
  fun i => (h i).trans (e _ _ _ _ (i 0).isLt (i 1).isLt (i 2).isLt (i 3).isLt)

/-! ## Elementwise operations -/

/-- An elementwise operation on one array. -/
theorem R2.map (op : α → β) {d : Fin 2 → ℕ} {x : (⟨2, d⟩ : Shape).Idx → α} {f : ℕ → ℕ → α} (h : R2 x f) :
    R2 (fun i => op (x i)) fun a b => op (f a b) :=
  fun i => congrArg op (h i)

/-- An elementwise operation on two arrays. -/
theorem R2.map₂ (op : α → β → γ) {d : Fin 2 → ℕ} {x : (⟨2, d⟩ : Shape).Idx → α} {y : (⟨2, d⟩ : Shape).Idx → β}
    {f : ℕ → ℕ → α} {g : ℕ → ℕ → β} (h : R2 x f) (k : R2 y g) :
    R2 (fun i => op (x i) (y i)) fun a b => op (f a b) (g a b) :=
  fun i => congrArg₂ op (h i) (k i)

/-- An elementwise operation on two arrays. -/
theorem R3.map₂ (op : α → β → γ) {d : Fin 3 → ℕ} {x : (⟨3, d⟩ : Shape).Idx → α} {y : (⟨3, d⟩ : Shape).Idx → β}
    {f : ℕ → ℕ → ℕ → α} {g : ℕ → ℕ → ℕ → β} (h : R3 x f) (k : R3 y g) :
    R3 (fun i => op (x i) (y i)) fun a b c => op (f a b c) (g a b c) :=
  fun i => congrArg₂ op (h i) (k i)

/-- An elementwise operation on two arrays. -/
theorem R4.map₂ (op : α → β → γ) {d : Fin 4 → ℕ} {x : (⟨4, d⟩ : Shape).Idx → α} {y : (⟨4, d⟩ : Shape).Idx → β}
    {f : ℕ → ℕ → ℕ → ℕ → α} {g : ℕ → ℕ → ℕ → ℕ → β} (h : R4 x f) (k : R4 y g) :
    R4 (fun i => op (x i) (y i)) fun a b c e => op (f a b c e) (g a b c e) :=
  fun i => congrArg₂ op (h i) (k i)

/-- A splat holds its value everywhere. -/
theorem R2.splat (d : Fin 2 → ℕ) (v : α) : R2 (broadcast ⟨2, d⟩ v) fun _ _ => v := fun _ => rfl

/-- A select between two arrays by a one-bit array that says `p`. -/
theorem R2.sel {d : Fin 2 → ℕ} {m : (⟨2, d⟩ : Shape).Idx → BitVec 1} {x y : (⟨2, d⟩ : Shape).Idx → α}
    {p : ℕ → ℕ → Prop} [∀ a b, Decidable (p a b)] {f g : ℕ → ℕ → α}
    (hm : ∀ i : (⟨2, d⟩ : Shape).Idx, m i = 1 ↔ p (i 0).val (i 1).val) (h : R2 x f) (k : R2 y g) :
    R2 (select m x y) fun a b => if p a b then f a b else g a b := by
  intro i
  show (if m i = 1 then x i else y i) = _
  simp only [hm i, h i, k i]

/-! ## Slices -/

/-- A slice of a rank-2 array reads at the shifted coordinates. -/
theorem R2.slice {d e : Fin 2 → ℕ} {x : (⟨2, d⟩ : Shape).Idx → α} {f : ℕ → ℕ → α} (o₀ o₁ : ℕ)
    (hs : (⟨2, d⟩ : Shape).Slices ![o₀, o₁] ⟨2, e⟩) (h : R2 x f) :
    R2 (extractStridedSlice ⟨2, e⟩ ![o₀, o₁] x hs) fun a b => f (o₀ + a) (o₁ + b) :=
  fun _ => h _

/-- A slice of a rank-3 array reads at the shifted coordinates. -/
theorem R3.slice {d e : Fin 3 → ℕ} {x : (⟨3, d⟩ : Shape).Idx → α} {f : ℕ → ℕ → ℕ → α} (o₀ o₁ o₂ : ℕ)
    (hs : (⟨3, d⟩ : Shape).Slices ![o₀, o₁, o₂] ⟨3, e⟩) (h : R3 x f) :
    R3 (extractStridedSlice ⟨3, e⟩ ![o₀, o₁, o₂] x hs) fun a b c => f (o₀ + a) (o₁ + b) (o₂ + c) :=
  fun _ => h _

/-- A slice of a rank-4 array reads at the shifted coordinates. -/
theorem R4.slice {d e : Fin 4 → ℕ} {x : (⟨4, d⟩ : Shape).Idx → α} {f : ℕ → ℕ → ℕ → ℕ → α} (o₀ o₁ o₂ o₃ : ℕ)
    (hs : (⟨4, d⟩ : Shape).Slices ![o₀, o₁, o₂, o₃] ⟨4, e⟩) (h : R4 x f) :
    R4 (extractStridedSlice ⟨4, e⟩ ![o₀, o₁, o₂, o₃] x hs)
      fun a b c k => f (o₀ + a) (o₁ + b) (o₂ + c) (o₃ + k) :=
  fun _ => h _

/-! ## Two arrays laid end to end -/

section Concat

/-- Two rank-2 arrays one above the other: the first below row `m`, then the second. -/
theorem R2.cat₀ {m n k : ℕ} {t : ℕ} {x : (⟨2, ![m, k]⟩ : Shape).Idx → α} {y : (⟨2, ![n, k]⟩ : Shape).Idx → α}
    {f g : ℕ → ℕ → α} (hc : Shape.Concatenates [⟨2, ![m, k]⟩, ⟨2, ![n, k]⟩] ⟨2, ![t, k]⟩ 0) (ht : t = m + n)
    (h : R2 x f) (hy : R2 y g) :
    R2 (concatenate ⟨2, ![t, k]⟩ 0 [⟨⟨2, ![m, k]⟩, x⟩, ⟨⟨2, ![n, k]⟩, y⟩] hc)
      fun a b => if a < m then f a b else g (a - m) b := by
  subst ht
  intro j
  have h0 := idx2_lt0 j
  have h1 := idx2_lt1 j
  by_cases hj : (j 0).val < m
  · refine Eq.trans ?_ (if_pos hj).symm
    exact (concatenate_pair_apply_left (0 : Fin 2) x y hc j rfl (ix2 ⟨(j 0).val, hj⟩ ⟨(j 1).val, h1⟩)
      (fun b => match b with | ⟨0, _⟩ => rfl | ⟨1, _⟩ => rfl)).trans (h _)
  · refine Eq.trans ?_ (if_neg hj).symm
    exact (concatenate_pair_apply_right (0 : Fin 2) x y hc j rfl rfl (ix2 ⟨(j 0).val - m, by omega⟩ ⟨(j 1).val, h1⟩)
      (fun b hb => match b with | ⟨0, _⟩ => absurd rfl hb | ⟨1, _⟩ => rfl)
      (by show (j 0).val - m + m = (j 0).val; omega)).trans (hy _)

/-- Two rank-2 arrays side by side: the first left of column `m`, then the second. -/
theorem R2.cat₁ {m n k : ℕ} {t : ℕ} {x : (⟨2, ![k, m]⟩ : Shape).Idx → α} {y : (⟨2, ![k, n]⟩ : Shape).Idx → α}
    {f g : ℕ → ℕ → α} (hc : Shape.Concatenates [⟨2, ![k, m]⟩, ⟨2, ![k, n]⟩] ⟨2, ![k, t]⟩ 1) (ht : t = m + n)
    (h : R2 x f) (hy : R2 y g) :
    R2 (concatenate ⟨2, ![k, t]⟩ 1 [⟨⟨2, ![k, m]⟩, x⟩, ⟨⟨2, ![k, n]⟩, y⟩] hc)
      fun a b => if b < m then f a b else g a (b - m) := by
  subst ht
  intro j
  have h0 := idx2_lt0 j
  have h1 := idx2_lt1 j
  by_cases hj : (j 1).val < m
  · refine Eq.trans ?_ (if_pos hj).symm
    exact (concatenate_pair_apply_left (1 : Fin 2) x y hc j rfl (ix2 ⟨(j 0).val, h0⟩ ⟨(j 1).val, hj⟩)
      (fun b => match b with | ⟨0, _⟩ => rfl | ⟨1, _⟩ => rfl)).trans (h _)
  · refine Eq.trans ?_ (if_neg hj).symm
    exact (concatenate_pair_apply_right (1 : Fin 2) x y hc j rfl rfl (ix2 ⟨(j 0).val, h0⟩ ⟨(j 1).val - m, by omega⟩)
      (fun b hb => match b with | ⟨0, _⟩ => rfl | ⟨1, _⟩ => absurd rfl hb)
      (by show (j 1).val - m + m = (j 1).val; omega)).trans (hy _)

/-- Two rank-3 arrays laid end to end along the middle axis. -/
theorem R3.cat₁ {m n k l : ℕ} {t : ℕ} {x : (⟨3, ![k, m, l]⟩ : Shape).Idx → α} {y : (⟨3, ![k, n, l]⟩ : Shape).Idx → α}
    {f g : ℕ → ℕ → ℕ → α} (hc : Shape.Concatenates [⟨3, ![k, m, l]⟩, ⟨3, ![k, n, l]⟩] ⟨3, ![k, t, l]⟩ 1)
    (ht : t = m + n) (h : R3 x f) (hy : R3 y g) :
    R3 (concatenate ⟨3, ![k, t, l]⟩ 1 [⟨⟨3, ![k, m, l]⟩, x⟩, ⟨⟨3, ![k, n, l]⟩, y⟩] hc)
      fun a b c => if b < m then f a b c else g a (b - m) c := by
  subst ht
  intro j
  have h1 : (j 1).val < m + n := (j 1).isLt
  by_cases hj : (j 1).val < m
  · refine Eq.trans ?_ (if_pos hj).symm
    exact (concatenate_pair_apply_left (1 : Fin 3) x y hc j rfl (ix3 (j 0) ⟨(j 1).val, hj⟩ (j 2))
      (fun b => match b with | ⟨0, _⟩ => rfl | ⟨1, _⟩ => rfl | ⟨2, _⟩ => rfl)).trans (h _)
  · refine Eq.trans ?_ (if_neg hj).symm
    exact (concatenate_pair_apply_right (1 : Fin 3) x y hc j rfl rfl (ix3 (j 0) ⟨(j 1).val - m, by omega⟩ (j 2))
      (fun b hb => match b with | ⟨0, _⟩ => rfl | ⟨1, _⟩ => absurd rfl hb | ⟨2, _⟩ => rfl)
      (by show (j 1).val - m + m = (j 1).val; omega)).trans (hy _)

/-- Two rank-3 arrays laid end to end along the last axis. -/
theorem R3.cat₂ {m n k l : ℕ} {t : ℕ} {x : (⟨3, ![k, l, m]⟩ : Shape).Idx → α} {y : (⟨3, ![k, l, n]⟩ : Shape).Idx → α}
    {f g : ℕ → ℕ → ℕ → α} (hc : Shape.Concatenates [⟨3, ![k, l, m]⟩, ⟨3, ![k, l, n]⟩] ⟨3, ![k, l, t]⟩ 2)
    (ht : t = m + n) (h : R3 x f) (hy : R3 y g) :
    R3 (concatenate ⟨3, ![k, l, t]⟩ 2 [⟨⟨3, ![k, l, m]⟩, x⟩, ⟨⟨3, ![k, l, n]⟩, y⟩] hc)
      fun a b c => if c < m then f a b c else g a b (c - m) := by
  subst ht
  intro j
  have h2 : (j 2).val < m + n := (j 2).isLt
  by_cases hj : (j 2).val < m
  · refine Eq.trans ?_ (if_pos hj).symm
    exact (concatenate_pair_apply_left (2 : Fin 3) x y hc j rfl (ix3 (j 0) (j 1) ⟨(j 2).val, hj⟩)
      (fun b => match b with | ⟨0, _⟩ => rfl | ⟨1, _⟩ => rfl | ⟨2, _⟩ => rfl)).trans (h _)
  · refine Eq.trans ?_ (if_neg hj).symm
    exact (concatenate_pair_apply_right (2 : Fin 3) x y hc j rfl rfl (ix3 (j 0) (j 1) ⟨(j 2).val - m, by omega⟩)
      (fun b hb => match b with | ⟨0, _⟩ => rfl | ⟨1, _⟩ => rfl | ⟨2, _⟩ => absurd rfl hb)
      (by show (j 2).val - m + m = (j 2).val; omega)).trans (hy _)

end Concat

/-! ## Shape casts: an image `m × n` read as one line of `l = m · n` and back -/

/-- Casting to a same-shaped array changes nothing. -/
theorem R2.recast {d : Fin 2 → ℕ} {x : (⟨2, d⟩ : Shape).Idx → α} {f : ℕ → ℕ → α}
    (hc : (⟨2, d⟩ : Shape).ShapeCasts ⟨2, d⟩) (h : R2 x f) : R2 (shapeCast ⟨2, d⟩ x hc) f := by
  rw [shapeCast_self]; exact h

/-- A stack of images read as a stack of lines. -/
theorem R3.flat {k m n l : ℕ} {x : (⟨3, ![k, m, n]⟩ : Shape).Idx → α} {f : ℕ → ℕ → ℕ → α}
    (hc : (⟨3, ![k, m, n]⟩ : Shape).ShapeCasts ⟨2, ![k, l]⟩) (hl : l = m * n) (h : R3 x f) :
    R2 (shapeCast ⟨2, ![k, l]⟩ x hc) fun a p => f a (p / n) (p % n) := by
  subst hl
  intro j
  have h0 := idx2_lt0 j
  have h1 := idx2_lt1 j
  have hn : 0 < n := Nat.pos_of_ne_zero fun e => by simp [e] at h1
  refine (shapeCast_apply x hc j (ix3 ⟨(j 0).val, h0⟩ ⟨(j 1).val / n, Nat.div_lt_of_lt_mul (h1.trans_eq (Nat.mul_comm m n))⟩
    ⟨(j 1).val % n, Nat.mod_lt _ hn⟩) ?_).trans (h _)
  rw [Shape.rowMajor_val_three, Shape.rowMajor_val_two]
  show ((j 0).val * m + (j 1).val / n) * n + (j 1).val % n = (j 0).val * (m * n) + (j 1).val
  have := Nat.div_add_mod (j 1).val n
  rw [Nat.add_mul, Nat.mul_assoc, Nat.add_assoc, Nat.mul_comm ((j 1).val / n) n, this]

/-- A stack of lines read as a stack of images. -/
theorem R2.stack {k m n l : ℕ} {x : (⟨2, ![k, l]⟩ : Shape).Idx → α} {f : ℕ → ℕ → α}
    (hc : (⟨2, ![k, l]⟩ : Shape).ShapeCasts ⟨3, ![k, m, n]⟩) (hl : l = m * n) (h : R2 x f) :
    R3 (shapeCast ⟨3, ![k, m, n]⟩ x hc) fun a i j => f a (i * n + j) := by
  subst hl
  intro j
  have h0 : (j 0).val < k := (j 0).isLt
  have h1 : (j 1).val < m := (j 1).isLt
  have h2 : (j 2).val < n := (j 2).isLt
  have hlt : (j 1).val * n + (j 2).val < m * n := by
    have := Nat.mul_le_mul_right n (Nat.succ_le_of_lt h1); rw [Nat.succ_mul] at this; omega
  refine (shapeCast_apply x hc j (ix2 ⟨(j 0).val, h0⟩ ⟨(j 1).val * n + (j 2).val, hlt⟩) ?_).trans (h _)
  rw [Shape.rowMajor_val_three, Shape.rowMajor_val_two]
  show (j 0).val * (m * n) + ((j 1).val * n + (j 2).val) = ((j 0).val * m + (j 1).val) * n + (j 2).val
  rw [Nat.add_mul, Nat.mul_assoc, Nat.add_assoc]

/-- One line read as an image. -/
theorem R2.image {m n l : ℕ} {x : (⟨2, ![1, l]⟩ : Shape).Idx → α} {f : ℕ → ℕ → α}
    (hc : (⟨2, ![1, l]⟩ : Shape).ShapeCasts ⟨2, ![m, n]⟩) (hl : l = m * n) (h : R2 x f) :
    R2 (shapeCast ⟨2, ![m, n]⟩ x hc) fun i j => f 0 (i * n + j) := by
  subst hl
  intro j
  have h1 := idx2_lt0 j
  have h2 := idx2_lt1 j
  have hlt : (j 0).val * n + (j 1).val < m * n := by
    have := Nat.mul_le_mul_right n (Nat.succ_le_of_lt h1); rw [Nat.succ_mul] at this; omega
  refine (shapeCast_apply x hc j (ix2 ⟨0, Nat.one_pos⟩ ⟨(j 0).val * n + (j 1).val, hlt⟩) ?_).trans (h _)
  rw [Shape.rowMajor_val_two, Shape.rowMajor_val_two]
  show 0 * (m * n) + ((j 0).val * n + (j 1).val) = (j 0).val * n + (j 1).val
  omega

/-- One image read as a line. -/
theorem R2.line {m n l : ℕ} {x : (⟨2, ![m, n]⟩ : Shape).Idx → α} {f : ℕ → ℕ → α}
    (hc : (⟨2, ![m, n]⟩ : Shape).ShapeCasts ⟨2, ![1, l]⟩) (hl : l = m * n) (h : R2 x f) :
    R2 (shapeCast ⟨2, ![1, l]⟩ x hc) fun _ p => f (p / n) (p % n) := by
  subst hl
  intro j
  have h0 := idx2_lt0 j
  have h1 := idx2_lt1 j
  have hn : 0 < n := Nat.pos_of_ne_zero fun e => by simp [e] at h1
  refine (shapeCast_apply x hc j (ix2 ⟨(j 1).val / n, Nat.div_lt_of_lt_mul (h1.trans_eq (Nat.mul_comm m n))⟩
    ⟨(j 1).val % n, Nat.mod_lt _ hn⟩) ?_).trans (h _)
  rw [Shape.rowMajor_val_two, Shape.rowMajor_val_two]
  show (j 1).val / n * n + (j 1).val % n = (j 0).val * (m * n) + (j 1).val
  have := Nat.div_add_mod' (j 1).val n
  have h00 : (j 0).val = 0 := by omega
  rw [this, h00]; omega

/-- A leading axis of extent one dropped. -/
theorem R4.drop {d : Fin 3 → ℕ} {x : (⟨4, Matrix.vecCons 1 d⟩ : Shape).Idx → α} {f : ℕ → ℕ → ℕ → ℕ → α}
    (hc : (⟨4, Matrix.vecCons 1 d⟩ : Shape).ShapeCasts ⟨3, d⟩) (h : R4 x f) :
    R3 (shapeCast ⟨3, d⟩ x hc) fun a b c => f 0 a b c :=
  fun j => (shapeCast_dropUnit_apply d x hc j).trans (h _)

/-- A leading axis of extent one added. -/
theorem R3.lead {d : Fin 3 → ℕ} {x : (⟨3, d⟩ : Shape).Idx → α} {f : ℕ → ℕ → ℕ → α}
    (hc : (⟨3, d⟩ : Shape).ShapeCasts ⟨4, Matrix.vecCons 1 d⟩) (h : R3 x f) :
    R4 (shapeCast ⟨4, Matrix.vecCons 1 d⟩ x hc) fun _ a b c => f a b c :=
  fun j => (shapeCast_addUnit_apply d x hc j).trans (h _)

/-! ## Broadcasts -/

/-- One row repeated. -/
theorem R2.rows {m n : ℕ} {x : (⟨2, ![1, n]⟩ : Shape).Idx → α} {f : ℕ → ℕ → α} (hn : n ≠ 1)
    (hb : (⟨2, ![1, n]⟩ : Shape).Broadcasts ⟨2, ![m, n]⟩) (h : R2 x f) :
    R2 (broadcastTo ⟨2, ![m, n]⟩ x hb) fun _ b => f 0 b := by
  intro j
  have h1 := idx2_lt1 j
  refine (broadcastTo_apply x hb j (ix2 ⟨0, Nat.one_pos⟩ ⟨(j 1).val, h1⟩) fun a => ?_).trans (h _)
  match a with
  | ⟨0, _⟩ => rfl
  | ⟨1, _⟩ => show (j 1).val = if n = 1 then 0 else (j 1).val; rw [if_neg hn]

/-- One column repeated. -/
theorem R2.cols {m n : ℕ} {x : (⟨2, ![m, 1]⟩ : Shape).Idx → α} {f : ℕ → ℕ → α} (hm : m ≠ 1)
    (hb : (⟨2, ![m, 1]⟩ : Shape).Broadcasts ⟨2, ![m, n]⟩) (h : R2 x f) :
    R2 (broadcastTo ⟨2, ![m, n]⟩ x hb) fun a _ => f a 0 := by
  intro j
  have h0 := idx2_lt0 j
  refine (broadcastTo_apply x hb j (ix2 ⟨(j 0).val, h0⟩ ⟨0, Nat.one_pos⟩) fun a => ?_).trans (h _)
  match a with
  | ⟨0, _⟩ => show (j 0).val = if m = 1 then 0 else (j 0).val; rw [if_neg hm]
  | ⟨1, _⟩ => rfl

/-- One element repeated. -/
theorem R2.point {m n : ℕ} {x : (⟨2, ![1, 1]⟩ : Shape).Idx → α} {f : ℕ → ℕ → α}
    (hb : (⟨2, ![1, 1]⟩ : Shape).Broadcasts ⟨2, ![m, n]⟩) (h : R2 x f) :
    R2 (broadcastTo ⟨2, ![m, n]⟩ x hb) fun _ _ => f 0 0 := by
  intro j
  refine (broadcastTo_apply x hb j (ix2 ⟨0, Nat.one_pos⟩ ⟨0, Nat.one_pos⟩) fun a => ?_).trans (h _)
  match a with
  | ⟨0, _⟩ => rfl
  | ⟨1, _⟩ => rfl

/-! ## Sums over the leading axis -/

/-- A sum over the leading axis of a rank-3 array of extended reals. -/
theorem R3.sum₀ {k m n : ℕ} {x : (⟨3, ![k, m, n]⟩ : Shape).Idx → EReal} {f : ℕ → ℕ → ℕ → EReal} {acc : BitVec 32}
    (hr : (⟨3, ![k, m, n]⟩ : Shape).Reduces [0] ⟨2, ![m, n]⟩) (hφ : FKind.Formats .f32)
    (hacc : acc = FKind.add.neutral .f32 hφ) (h : R3 x f) :
    R2 (multiReduction (F := Ideal) (φ := .f32) .add [0] ⟨2, ![m, n]⟩ x acc hr hφ hacc)
      fun a b => ∑ c : Fin k, f c.val a b := by
  intro j
  rw [Ideal.multiReduction_add_single]
  exact Finset.sum_congr rfl fun c _ => h _

/-! ## Rolls: two slices of one array laid end to end in the other order -/

/-- The columns rolled left by `m`. -/
theorem R2.roll₁ {m n k t : ℕ} {x : (⟨2, ![k, t]⟩ : Shape).Idx → α} {f : ℕ → ℕ → α}
    (hs : (⟨2, ![k, t]⟩ : Shape).Slices ![0, m] ⟨2, ![k, n]⟩) (hs' : (⟨2, ![k, t]⟩ : Shape).Slices ![0, 0] ⟨2, ![k, m]⟩)
    (hc : Shape.Concatenates [⟨2, ![k, n]⟩, ⟨2, ![k, m]⟩] ⟨2, ![k, t]⟩ 1) (ht : t = n + m) (h : R2 x f) :
    R2 (concatenate ⟨2, ![k, t]⟩ 1 [⟨⟨2, ![k, n]⟩, extractStridedSlice ⟨2, ![k, n]⟩ ![0, m] x hs⟩,
      ⟨⟨2, ![k, m]⟩, extractStridedSlice ⟨2, ![k, m]⟩ ![0, 0] x hs'⟩] hc) fun a b => f a ((b + m) % t) := by
  refine ((h.slice 0 m hs).cat₁ hc ht (h.slice 0 0 hs')).congr fun a b ha hb => ?_
  replace hb : b < t := hb
  by_cases hbn : b < n
  · rw [if_pos hbn, Nat.mod_eq_of_lt (by omega)]; congr 1 <;> omega
  · rw [if_neg hbn, Nat.mod_eq_sub_mod (by omega), Nat.mod_eq_of_lt (by omega)]; congr 1 <;> omega

/-- The rows rolled up by `m`. -/
theorem R2.roll₀ {m n k t : ℕ} {x : (⟨2, ![t, k]⟩ : Shape).Idx → α} {f : ℕ → ℕ → α}
    (hs : (⟨2, ![t, k]⟩ : Shape).Slices ![m, 0] ⟨2, ![n, k]⟩) (hs' : (⟨2, ![t, k]⟩ : Shape).Slices ![0, 0] ⟨2, ![m, k]⟩)
    (hc : Shape.Concatenates [⟨2, ![n, k]⟩, ⟨2, ![m, k]⟩] ⟨2, ![t, k]⟩ 0) (ht : t = n + m) (h : R2 x f) :
    R2 (concatenate ⟨2, ![t, k]⟩ 0 [⟨⟨2, ![n, k]⟩, extractStridedSlice ⟨2, ![n, k]⟩ ![m, 0] x hs⟩,
      ⟨⟨2, ![m, k]⟩, extractStridedSlice ⟨2, ![m, k]⟩ ![0, 0] x hs'⟩] hc) fun a b => f ((a + m) % t) b := by
  refine ((h.slice m 0 hs).cat₀ hc ht (h.slice 0 0 hs')).congr fun a b ha hb => ?_
  replace ha : a < t := ha
  by_cases han : a < n
  · rw [if_pos han, Nat.mod_eq_of_lt (by omega)]; congr 1 <;> omega
  · rw [if_neg han, Nat.mod_eq_sub_mod (by omega), Nat.mod_eq_of_lt (by omega)]; congr 1 <;> omega

/-- The middle axis rolled by `m`. -/
theorem R3.roll₁ {m n k l t : ℕ} {x : (⟨3, ![k, t, l]⟩ : Shape).Idx → α} {f : ℕ → ℕ → ℕ → α}
    (hs : (⟨3, ![k, t, l]⟩ : Shape).Slices ![0, m, 0] ⟨3, ![k, n, l]⟩)
    (hs' : (⟨3, ![k, t, l]⟩ : Shape).Slices ![0, 0, 0] ⟨3, ![k, m, l]⟩)
    (hc : Shape.Concatenates [⟨3, ![k, n, l]⟩, ⟨3, ![k, m, l]⟩] ⟨3, ![k, t, l]⟩ 1) (ht : t = n + m) (h : R3 x f) :
    R3 (concatenate ⟨3, ![k, t, l]⟩ 1 [⟨⟨3, ![k, n, l]⟩, extractStridedSlice ⟨3, ![k, n, l]⟩ ![0, m, 0] x hs⟩,
      ⟨⟨3, ![k, m, l]⟩, extractStridedSlice ⟨3, ![k, m, l]⟩ ![0, 0, 0] x hs'⟩] hc)
      fun a b c => f a ((b + m) % t) c := by
  refine ((h.slice 0 m 0 hs).cat₁ hc ht (h.slice 0 0 0 hs')).congr fun a b c ha hb _ => ?_
  replace hb : b < t := hb
  by_cases hbn : b < n
  · rw [if_pos hbn, Nat.mod_eq_of_lt (by omega)]; congr 1 <;> omega
  · rw [if_neg hbn, Nat.mod_eq_sub_mod (by omega), Nat.mod_eq_of_lt (by omega)]; congr 1 <;> omega

/-- The last axis rolled by `m`. -/
theorem R3.roll₂ {m n k l t : ℕ} {x : (⟨3, ![k, l, t]⟩ : Shape).Idx → α} {f : ℕ → ℕ → ℕ → α}
    (hs : (⟨3, ![k, l, t]⟩ : Shape).Slices ![0, 0, m] ⟨3, ![k, l, n]⟩)
    (hs' : (⟨3, ![k, l, t]⟩ : Shape).Slices ![0, 0, 0] ⟨3, ![k, l, m]⟩)
    (hc : Shape.Concatenates [⟨3, ![k, l, n]⟩, ⟨3, ![k, l, m]⟩] ⟨3, ![k, l, t]⟩ 2) (ht : t = n + m) (h : R3 x f) :
    R3 (concatenate ⟨3, ![k, l, t]⟩ 2 [⟨⟨3, ![k, l, n]⟩, extractStridedSlice ⟨3, ![k, l, n]⟩ ![0, 0, m] x hs⟩,
      ⟨⟨3, ![k, l, m]⟩, extractStridedSlice ⟨3, ![k, l, m]⟩ ![0, 0, 0] x hs'⟩] hc)
      fun a b c => f a b ((c + m) % t) := by
  refine ((h.slice 0 0 m hs).cat₂ hc ht (h.slice 0 0 0 hs')).congr fun a b c ha _ hc => ?_
  replace hc : c < t := hc
  by_cases hcn : c < n
  · rw [if_pos hcn, Nat.mod_eq_of_lt (by omega)]; congr 1 <;> omega
  · rw [if_neg hcn, Nat.mod_eq_sub_mod (by omega), Nat.mod_eq_of_lt (by omega)]; congr 1 <;> omega

/-! ## A plain matrix product into zero -/

/-- A plain product accumulated into zero is the sum of products. -/
theorem R2.product {m k n : ℕ} {φ : FTy} {D : DotDims ⟨2, ![m, k]⟩ ⟨2, ![k, n]⟩ ⟨2, ![m, n]⟩} (hD : D = DotDims.plain m k n)
    {x : FVec Ideal ⟨2, ![m, k]⟩ φ} {y : FVec Ideal ⟨2, ![k, n]⟩ φ} {f g : ℕ → ℕ → EReal} (h : R2 x f) (hy : R2 y g) :
    R2 (FloatOps.matmul D none x y (constant (F := Ideal) ⟨2, ![m, n]⟩ .f32 0x00000000#32))
      fun a b => ∑ c : Fin k, f a c.val * g c.val b := by
  subst hD
  intro j
  rw [Ideal.matmul_constant_zero_apply]
  refine (Equiv.sum_comp (contrEquiv1 (DotDims.plain m k n) k rfl rfl).symm _).symm.trans (Finset.sum_congr rfl fun c _ => ?_)
  exact congrArg₂ (· * ·) (h _) (hy _)

end Scan
-- ==== Proof.Gate.lean ====
/-
  The gate of one scan position. With `n` the squared distance of two neighbouring pixels, the gate is
  `0.2 + 0.8 · tanh (sqrt (n + 1e-12))`, the constants being the f32 numbers nearest to these decimals. It is never
  negative when `n` is not, so a product with a sum of gates is the sum of the products, for every extended real.
-/
module

public import Idealize.ShloMosaic.PureOps.Ideal.Laws

@[expose] public section

noncomputable section

namespace Scan

open Idealize.ShloMosaic

/-- The f32 number written `1e-12`. -/
def eps : EReal := Ideal.ofBits .f32 0x2B8CBCCC#32
/-- The f32 number written `0.8`. -/
def c08 : EReal := Ideal.ofBits .f32 0x3F4CCCCD#32
/-- The f32 number written `0.2`. -/
def c02 : EReal := Ideal.ofBits .f32 0x3E4CCCCD#32
/-- The f32 number written `1.6`. -/
def c16 : EReal := Ideal.ofBits .f32 0x3FCCCCCD#32

/-- The saturating part of the gate. -/
def bend (n : EReal) : EReal := Ideal.tanh (Ideal.sqrt (n + eps))

/-- The gate of a squared distance. -/
def gate (n : EReal) : EReal := c02 + c08 * bend n

theorem c02_eq : c02 = ((13421773 / 67108864 : ℝ) : EReal) := by
  simp [c02, Ideal.ofBits, Ideal.ieee, -EReal.coe_mul]; norm_num
theorem c16_eq : c16 = ((13421773 / 8388608 : ℝ) : EReal) := by
  simp [c16, Ideal.ofBits, Ideal.ieee, -EReal.coe_mul]; norm_num
theorem c08_eq : c08 = ((13421773 / 16777216 : ℝ) : EReal) := by
  simp [c08, Ideal.ofBits, Ideal.ieee, -EReal.coe_mul]; norm_num

theorem c02_nonneg : 0 ≤ c02 := by rw [c02_eq]; exact_mod_cast (by norm_num : (0 : ℝ) ≤ 13421773 / 67108864)
theorem c08_nonneg : 0 ≤ c08 := by rw [c08_eq]; exact_mod_cast (by norm_num : (0 : ℝ) ≤ 13421773 / 16777216)

/-- The kernel's 1.6 is eight times the reference's 0.2, exactly. -/
theorem c16_split : c16 = c02 + c02 + c02 + c02 + c02 + c02 + c02 + c02 := by
  rw [c16_eq, c02_eq]
  norm_cast
  norm_num

theorem eps_nonneg : 0 ≤ eps := by
  have h : eps = ((9223372 / 9223372036854775808 : ℝ) : EReal) := by
    simp [eps, Ideal.ofBits, Ideal.ieee, -EReal.coe_mul]; norm_num
  rw [h]; exact_mod_cast (by norm_num : (0 : ℝ) ≤ 9223372 / 9223372036854775808)

/-- The square root of a nonnegative number is nonnegative. -/
theorem sqrt_nonneg {a : EReal} (h : 0 ≤ a) : 0 ≤ Ideal.sqrt a := by
  induction a using EReal.rec with
  | bot => simp at h
  | top => exact le_top
  | coe r =>
    have hr : ¬ r < 0 := not_lt.2 (by exact_mod_cast h)
    show 0 ≤ if r < 0 then (⊥ : EReal) else (Real.sqrt r : EReal)
    rw [if_neg hr]
    exact_mod_cast Real.sqrt_nonneg r

/-- The hyperbolic tangent of a nonnegative number is nonnegative. -/
theorem tanh_nonneg {a : EReal} (h : 0 ≤ a) : 0 ≤ Ideal.tanh a := by
  induction a using EReal.rec with
  | bot => simp at h
  | top => exact (zero_le_one : (0 : EReal) ≤ 1)
  | coe r =>
    have hr : 0 ≤ r := by exact_mod_cast h
    show 0 ≤ ((Real.tanh r : ℝ) : EReal)
    have : 0 ≤ Real.tanh r := by
      rw [Real.tanh_eq_sinh_div_cosh]
      exact div_nonneg (Real.sinh_nonneg_iff.2 hr) (Real.cosh_pos r).le
    exact_mod_cast this

theorem bend_nonneg {n : EReal} (h : 0 ≤ n) : 0 ≤ bend n :=
  tanh_nonneg (sqrt_nonneg (add_nonneg h eps_nonneg))

theorem gate_nonneg {n : EReal} (h : 0 ≤ n) : 0 ≤ gate n :=
  add_nonneg c02_nonneg (mul_nonneg c08_nonneg (bend_nonneg h))

/-- A product with a sum of eight nonnegative numbers is the sum of the eight products. -/
theorem mul_sum_eight (x : EReal) {a b c d e f g h : EReal} (ha : 0 ≤ a) (hb : 0 ≤ b) (hc : 0 ≤ c) (hd : 0 ≤ d)
    (he : 0 ≤ e) (hf : 0 ≤ f) (hg : 0 ≤ g) (hh : 0 ≤ h) :
    x * (a + b + c + d + e + f + g + h) = x * a + x * b + x * c + x * d + x * e + x * f + x * g + x * h := by
  rw [EReal.left_distrib_of_nonneg (by positivity) hh, EReal.left_distrib_of_nonneg (by positivity) hg,
    EReal.left_distrib_of_nonneg (by positivity) hf, EReal.left_distrib_of_nonneg (by positivity) he,
    EReal.left_distrib_of_nonneg (by positivity) hd, EReal.left_distrib_of_nonneg (by positivity) hc,
    EReal.left_distrib_of_nonneg ha hb]

/-- The pixel times the kernel's summed gate is the sum, in the reference's order, of the pixel times each of the eight
    gates. -/
theorem gated_sum (x : EReal) {n₀ n₁ n₂ n₃ n₄ n₅ n₆ n₇ : EReal} (h₀ : 0 ≤ n₀) (h₁ : 0 ≤ n₁) (h₂ : 0 ≤ n₂)
    (h₃ : 0 ≤ n₃) (h₄ : 0 ≤ n₄) (h₅ : 0 ≤ n₅) (h₆ : 0 ≤ n₆) (h₇ : 0 ≤ n₇) :
    x * (c16 + c08 * (bend n₀ + bend n₂ + bend n₁ + bend n₃ + bend n₄ + bend n₆ + bend n₅ + bend n₇))
      = ((x * gate n₀ + x * gate n₂) + (x * gate n₁ + x * gate n₃))
        + ((x * gate n₄ + x * gate n₆) + (x * gate n₅ + x * gate n₇)) := by
  have e : c16 + c08 * (bend n₀ + bend n₂ + bend n₁ + bend n₃ + bend n₄ + bend n₆ + bend n₅ + bend n₇)
      = gate n₀ + gate n₂ + gate n₁ + gate n₃ + gate n₄ + gate n₆ + gate n₅ + gate n₇ := by
    rw [mul_sum_eight c08 (bend_nonneg h₀) (bend_nonneg h₂) (bend_nonneg h₁) (bend_nonneg h₃) (bend_nonneg h₄)
      (bend_nonneg h₆) (bend_nonneg h₅) (bend_nonneg h₇), c16_split]
    unfold gate
    abel
  rw [e, mul_sum_eight x (gate_nonneg h₀) (gate_nonneg h₂) (gate_nonneg h₁) (gate_nonneg h₃) (gate_nonneg h₄)
    (gate_nonneg h₆) (gate_nonneg h₅) (gate_nonneg h₇)]
  abel

/-! ## Squared distances -/

/-- A square is nonnegative. -/
theorem sq_nonneg' (a : EReal) : 0 ≤ a * a := by
  rcases le_total 0 a with h | h
  · exact mul_nonneg h h
  · have h' : 0 ≤ -a := by rw [← neg_zero]; exact EReal.neg_le_neg_iff.2 h
    have := mul_nonneg h' h'
    rwa [neg_mul_neg] at this

/-- The square of a difference does not depend on its order. -/
theorem sq_sub_comm (a b : EReal) : (a - b) * (a - b) = (b - a) * (b - a) := by
  induction a using EReal.rec <;> induction b using EReal.rec <;> first
    | rfl
    | (norm_cast; ring)
    | simp

end Scan
-- ==== Proof.Distance.lean ====
/-
  Squared distances between two pixels of one image with 96 channels, `X c i j` being channel `c` at row `i`, column `j`.
-/
module

public import proofs.«01_k».proof.Proof.Gate

@[expose] public section

noncomputable section

namespace Scan

/-- The squared distance of the pixels `(i, j)` and `(i', j')`, summed over the channels. -/
def dist (X : ℕ → ℕ → ℕ → EReal) (i j i' j' : ℕ) : EReal :=
  ∑ c : Fin 96, (X c.val i j - X c.val i' j') * (X c.val i j - X c.val i' j')

/-- The squared norm of the pixel `(i, j)`. -/
def norm (X : ℕ → ℕ → ℕ → EReal) (i j : ℕ) : EReal := ∑ c : Fin 96, X c.val i j * X c.val i j

theorem dist_comm (X : ℕ → ℕ → ℕ → EReal) (i j i' j' : ℕ) : dist X i j i' j' = dist X i' j' i j :=
  Finset.sum_congr rfl fun _ _ => sq_sub_comm _ _

theorem dist_nonneg (X : ℕ → ℕ → ℕ → EReal) (i j i' j' : ℕ) : 0 ≤ dist X i j i' j' :=
  Finset.sum_nonneg fun _ _ => sq_nonneg' _

theorem norm_nonneg (X : ℕ → ℕ → ℕ → EReal) (i j : ℕ) : 0 ≤ norm X i j :=
  Finset.sum_nonneg fun _ _ => sq_nonneg' _

end Scan
-- ==== Proof.KernelFields.lean ====
/-
  What one block of the kernel computes, field by field. The block is one image `X`; every field is a 128 × 128 array of
  squared distances between a pixel and the pixel before it (or after it) along one of the eight scan directions.
-/
module

public import proofs.«01_k».proof.Proof.Gen.KernelIdeal.Frame
public import proofs.«01_k».proof.Proof.Reads
public import proofs.«01_k».proof.Proof.Distance

@[expose] public section

set_option maxRecDepth 16384

noncomputable section

namespace Scan

open Idealize.ShloMosaic Cert.KernelIdeal Cert.KernelIdeal.Gen

/-! ## Masks -/

/-- Comparing a coordinate array with a constant gives 1 exactly where the coordinate is the constant. -/
theorem mask_eq {d : Fin 2 → ℕ} {x : (⟨2, d⟩ : Shape).Idx → BitVec 32} {g : ℕ → ℕ → ℕ} (n : ℕ) (hn : n < 128)
    (hx : R2 x fun a b => BitVec.ofNat 32 (g a b)) (hg : ∀ i : (⟨2, d⟩ : Shape).Idx, g (i 0).val (i 1).val < 128)
    (i : (⟨2, d⟩ : Shape).Idx) : cmpi .eq x (broadcast ⟨2, d⟩ (BitVec.ofNat 32 n)) i = 1 ↔ g (i 0).val (i 1).val = n := by
  show IntOp.cmpi .eq (x i) (BitVec.ofNat 32 n) = 1 ↔ _
  have h := hg i
  have e : x i = BitVec.ofNat 32 (g (i 0).val (i 1).val) := hx i
  rw [e]
  generalize g (i 0).val (i 1).val = k at h ⊢
  show BitVec.ofBool (BitVec.ofNat 32 k == BitVec.ofNat 32 n) = 1 ↔ k = n
  have hk : (BitVec.ofNat 32 k = BitVec.ofNat 32 n) ↔ k = n := by
    constructor
    · intro e
      have := congrArg BitVec.toNat e
      rw [BitVec.toNat_ofNat, BitVec.toNat_ofNat, Nat.mod_eq_of_lt (by omega), Nat.mod_eq_of_lt (by omega)] at this
      exact this
    · rintro rfl; rfl
  by_cases e : k = n
  · simp [e]
  · rw [beq_eq_false_iff_ne.2 fun h => e (hk.1 h)]
    exact ⟨fun h => absurd h (by decide), fun h => absurd h e⟩

/-- The conjunction of two masks. -/
theorem mask_and {s : Shape} {x y : s.Idx → BitVec 1} {i : s.Idx} {p q : Prop} (hx : x i = 1 ↔ p) (hy : y i = 1 ↔ q) :
    andi x y i = 1 ↔ p ∧ q := by
  show IntOp.andi (x i) (y i) = 1 ↔ _
  rw [← hx, ← hy]
  exact IntOp.andi_eq_one

/-- The array of row numbers. -/
theorem rowIdx (x0 : Vec Ideal S96x96 .bf16) (x1 : Vec Ideal S1x96x128x128 .f32) :
    R2 (k0_pay34 x0 x1) fun a _ => BitVec.ofNat 32 a := fun i => iota_single_apply _ _ _ _ _ i
/-- The array of column numbers. -/
theorem colIdx (x0 : Vec Ideal S96x96 .bf16) (x1 : Vec Ideal S1x96x128x128 .f32) :
    R2 (k0_pay35 x0 x1) fun _ b => BitVec.ofNat 32 b := fun i => iota_single_apply _ _ _ _ _ i

section Masks
variable {v2 v3 : IVec S128x128 32}

/-- The mask of row `n`. -/
theorem mask_row (n : ℕ) (hn : n < 128) (h2 : R2 v2 fun a _ => BitVec.ofNat 32 a) (i : S128x128.Idx) :
    cmpi .eq v2 (broadcast S128x128 (BitVec.ofNat 32 n)) i = 1 ↔ (i 0).val = n :=
  mask_eq (g := fun a _ => a) n hn h2 (fun i => (i 0).isLt) i
/-- The mask of column `n`. -/
theorem mask_col (n : ℕ) (hn : n < 128) (h3 : R2 v3 fun _ b => BitVec.ofNat 32 b) (i : S128x128.Idx) :
    cmpi .eq v3 (broadcast S128x128 (BitVec.ofNat 32 n)) i = 1 ↔ (i 1).val = n :=
  mask_eq (g := fun _ b => b) n hn h3 (fun i => (i 1).isLt) i

end Masks

/-! ## The block as images and lines, and its rolls -/

variable {v0 : Vec Ideal S1x96x128x128 .f32} {X : ℕ → ℕ → ℕ → EReal}

/-- The block as a stack of images. -/
theorem images (hx : R4 v0 fun _ c i j => X c i j) : R3 (k0_pay2 v0) X :=
  R4.drop shapeCasts_S1x96x128x128_S96x128x128 hx

/-- The block as a stack of lines. -/
theorem lines (hx : R4 v0 fun _ c i j => X c i j) : R2 (k0_pay3 v0) fun c p => X c (p / 128) (p % 128) :=
  R3.flat shapeCasts_S96x128x128_S96x16384 rfl (images hx)

/-- The lines moved right by one pixel. -/
theorem linesBack1 (hx : R4 v0 fun _ c i j => X c i j) :
    R2 (k0_pay4 v0) fun c p => X c ((p + 16383) % 16384 / 128) ((p + 16383) % 16384 % 128) := by
  have h := (lines hx).roll₁ slices_S96x16384_o0_16383_S96x1 slices_S96x16384_o0_0_S96x16383
    concatenates_S96x1_S96x16383_S96x16384_d1 (by norm_num)
  exact h

/-- The lines moved right by one image row. -/
theorem linesBack128 (hx : R4 v0 fun _ c i j => X c i j) :
    R2 (k0_pay5 v0) fun c p => X c ((p + 16256) % 16384 / 128) ((p + 16256) % 16384 % 128) := by
  have h := (lines hx).roll₁ slices_S96x16384_o0_16256_S96x128 slices_S96x16384_o0_0_S96x16256
    concatenates_S96x128_S96x16256_S96x16384_d1 (by norm_num)
  exact h

/-- The row of ones. -/
theorem ones : R2 (k0_pay6 (F := Ideal)) fun _ _ => (1 : EReal) := fun i => by
  show Ideal.ofBits .bf16 0x3F80#16 = 1
  simp [Ideal.ofBits, Ideal.ieee, -EReal.coe_mul]
  norm_num

/-- A row of ones times the squared difference of two stacks of lines, as an image: the squared distances. -/
theorem field {u w : FVec Ideal S96x16384 .bf16} {f g : ℕ → ℕ → EReal} (hu : R2 u f) (hw : R2 w g) :
    R2 (shapeCast S128x128 (extractStridedSlice S1x16384 ![0, 0]
        (matmul dot_S8x96_S96x16384_S8x16384_1_0_0_1_n_n none (k0_pay6 (F := Ideal)) (mulf (subf u w) (subf u w))
          (constant S8x16384 .f32 0x00000000#32)) slices_S8x16384_o0_0_S1x16384) shapeCasts_S1x16384_S128x128)
      fun i j => ∑ c : Fin 96, (f c.val (i * 128 + j) - g c.val (i * 128 + j)) * (f c.val (i * 128 + j) - g c.val (i * 128 + j)) := by
  have hd : R2 (subf u w) fun a b => f a b - g a b := hu.map₂ (fun x y : EReal => x - y) hw
  have hm : R2 (mulf (subf u w) (subf u w)) fun a b => (f a b - g a b) * (f a b - g a b) :=
    hd.map₂ (fun x y : EReal => x * y) hd
  have hp := ones.product (D := dot_S8x96_S96x16384_S8x16384_1_0_0_1_n_n) rfl hm
  refine ((hp.slice 0 0 slices_S8x16384_o0_0_S1x16384).image shapeCasts_S1x16384_S128x128 rfl).congr fun a b _ _ => ?_
  exact Finset.sum_congr rfl fun c _ => by rw [one_mul, Nat.zero_add]

/-- The squared distance to the pixel before in row order, the first pixel's being the last. -/
def rowField (X : ℕ → ℕ → ℕ → EReal) (i j : ℕ) : EReal :=
  if j = 0 then dist X i j ((i + 127) % 128) 127 else dist X i j i (j - 1)
/-- The squared distance to the pixel before in column order. -/
def colField (X : ℕ → ℕ → ℕ → EReal) (i j : ℕ) : EReal :=
  if i = 0 then dist X i j 127 ((j + 127) % 128) else dist X i j (i - 1) j
/-- The squared distance to the pixel before along the diagonals. -/
def diaField (X : ℕ → ℕ → ℕ → EReal) (i j : ℕ) : EReal :=
  if i = 0 then dist X i j 127 ((j + 126) % 128) else dist X i j (i - 1) ((j + 127) % 128)
/-- The squared distance to the pixel before along the antidiagonals. -/
def adiField (X : ℕ → ℕ → ℕ → EReal) (i j : ℕ) : EReal :=
  if i = 0 then dist X i j 127 j else dist X i j (i - 1) ((j + 1) % 128)

/-- Two distances are equal when their coordinates are. -/
theorem dist_congr (X : ℕ → ℕ → ℕ → EReal) {i j i' j' a b a' b' : ℕ} (h₁ : i = a) (h₂ : j = b) (h₃ : i' = a')
    (h₄ : j' = b') : dist X i j i' j' = dist X a b a' b' := by rw [h₁, h₂, h₃, h₄]

theorem rowField_read (hx : R4 v0 fun _ c i j => X c i j) : R2 (k0_pay7 v0) (rowField X) := by
  refine (field (lines hx) (linesBack1 hx)).congr fun i j hi hj => ?_
  replace hi : i < 128 := hi
  replace hj : j < 128 := hj
  unfold rowField
  split_ifs with h <;> exact dist_congr X (by omega) (by omega) (by omega) (by omega)

theorem colRaw_read (hx : R4 v0 fun _ c i j => X c i j) :
    R2 (k0_pay8 v0) fun i j => dist X i j ((i + 127) % 128) j := by
  refine (field (lines hx) (linesBack128 hx)).congr fun i j hi hj => ?_
  replace hi : i < 128 := hi
  replace hj : j < 128 := hj
  exact dist_congr X (by omega) (by omega) (by omega) (by omega)

theorem diaRaw_read (hx : R4 v0 fun _ c i j => X c i j) :
    R2 (k0_pay9 v0) fun i j => dist X i j ((i * 128 + j + 16255) % 16384 / 128) ((j + 127) % 128) := by
  refine (field (lines hx) ((linesBack1 hx).roll₁ slices_S96x16384_o0_16256_S96x128 slices_S96x16384_o0_0_S96x16256
    concatenates_S96x128_S96x16256_S96x16384_d1 (by norm_num))).congr fun i j hi hj => ?_
  replace hi : i < 128 := hi
  replace hj : j < 128 := hj
  exact dist_congr X (by omega) (by omega) (by omega) (by omega)

theorem adiRaw_read (hx : R4 v0 fun _ c i j => X c i j) :
    R2 (k0_pay10 v0) fun i j => dist X i j ((i * 128 + j + 16257) % 16384 / 128) ((j + 1) % 128) := by
  refine (field (lines hx) ((linesBack128 hx).roll₁ slices_S96x16384_o0_1_S96x16383 slices_S96x16384_o0_0_S96x1
    concatenates_S96x16383_S96x1_S96x16384_d1 (by norm_num))).congr fun i j hi hj => ?_
  replace hi : i < 128 := hi
  replace hj : j < 128 := hj
  exact dist_congr X (by omega) (by omega) (by omega) (by omega)

/-! ## Border rows and columns -/

/-- The top row. -/
theorem topRow (hx : R4 v0 fun _ c i j => X c i j) : R3 (k0_pay11 v0) fun c _ j => X c 0 j :=
  ((images hx).slice 0 0 0 slices_S96x128x128_o0_0_0_S96x1x128).congr fun c a j _ ha _ => by
    rw [Nat.lt_one_iff.1 ha]; simp only [Nat.zero_add]
/-- The bottom row. -/
theorem botRow (hx : R4 v0 fun _ c i j => X c i j) : R3 (k0_pay12 v0) fun c _ j => X c 127 j :=
  ((images hx).slice 0 127 0 slices_S96x128x128_o0_127_0_S96x1x128).congr fun c a j _ ha _ => by
    rw [Nat.lt_one_iff.1 ha]; simp only [Nat.zero_add, Nat.add_zero]
/-- The rightmost column. -/
theorem rightCol (hx : R4 v0 fun _ c i j => X c i j) : R3 (k0_pay13 v0) fun c i _ => X c i 127 :=
  ((images hx).slice 0 0 127 slices_S96x128x128_o0_0_127_S96x128x1).congr fun c i b _ _ hb => by
    rw [Nat.lt_one_iff.1 hb]; simp only [Nat.zero_add, Nat.add_zero]
/-- The leftmost column moved down by one. -/
theorem leftColBack (hx : R4 v0 fun _ c i j => X c i j) : R3 (k0_pay14 v0) fun c i _ => X c ((i + 127) % 128) 0 :=
  (((images hx).slice 0 0 0 slices_S96x128x128_o0_0_0_S96x128x1).roll₁ slices_S96x128x1_o0_127_0_S96x1x1
    slices_S96x128x1_o0_0_0_S96x127x1 concatenates_S96x1x1_S96x127x1_S96x128x1_d1 rfl).congr fun c i b _ _ hb => by
    rw [Nat.lt_one_iff.1 hb]; simp only [Nat.zero_add]

/-- The sum over the channels of the square of a difference of two stacks of rows (or columns). -/
theorem sqSum {m n : ℕ} {u w : FVec Ideal ⟨3, ![96, m, n]⟩ .f32} {f g : ℕ → ℕ → ℕ → EReal}
    (hr : (⟨3, ![96, m, n]⟩ : Shape).Reduces [0] ⟨2, ![m, n]⟩) (hφ : FKind.Formats .f32)
    (hacc : (0x00000000#32 : BitVec 32) = FKind.add.neutral .f32 hφ) (hu : R3 u f) (hw : R3 w g) :
    R2 (multiReduction .add [0] ⟨2, ![m, n]⟩ (mulf (subf u w) (subf u w)) 0x00000000#32 hr hφ hacc)
      fun a b => ∑ c : Fin 96, (f c.val a b - g c.val a b) * (f c.val a b - g c.val a b) :=
  have hd : R3 (subf u w) fun a b c => f a b c - g a b c := hu.map₂ (fun x y : EReal => x - y) hw
  (hd.map₂ (fun x y : EReal => x * y) hd).sum₀ hr hφ hacc

/-- The sum over the channels of the square of a stack of rows. -/
theorem sqNorm {m n : ℕ} {u w : FVec Ideal ⟨3, ![96, m, n]⟩ .f32} {f g : ℕ → ℕ → ℕ → EReal}
    (hr : (⟨3, ![96, m, n]⟩ : Shape).Reduces [0] ⟨2, ![m, n]⟩) (hφ : FKind.Formats .f32)
    (hacc : (0x00000000#32 : BitVec 32) = FKind.add.neutral .f32 hφ) (hu : R3 u f) (hw : R3 w g) :
    R2 (multiReduction .add [0] ⟨2, ![m, n]⟩ (mulf u w) 0x00000000#32 hr hφ hacc)
      fun a b => ∑ c : Fin 96, f c.val a b * g c.val a b :=
  (hu.map₂ (fun x y : EReal => x * y) hw).sum₀ hr hφ hacc

/-- One row repeated over the image, chosen on one row of the image. -/
theorem onRow {v2 : IVec S128x128 32} {r : FVec Ideal S1x128 .f32} {z : FVec Ideal S128x128 .f32} {f g : ℕ → ℕ → EReal}
    (n : ℕ) (hn : n < 128) (h2 : R2 v2 fun a _ => BitVec.ofNat 32 a) (hr : R2 r f) (hz : R2 z g) :
    R2 (select (cmpi .eq v2 (broadcast S128x128 (BitVec.ofNat 32 n)))
        (broadcastTo S128x128 (shapeCast S1x128 r shapeCasts_S1x128_S1x128) broadcasts_S1x128_S128x128) z)
      fun a b => if a = n then f 0 b else g a b :=
  R2.sel (p := fun a _ => a = n) (mask_row n hn h2) ((hr.recast shapeCasts_S1x128_S1x128).rows (by decide) broadcasts_S1x128_S128x128) hz

section Fields
variable {v2 v3 : IVec S128x128 32} (h2 : R2 v2 fun a _ => BitVec.ofNat 32 a) (h3 : R2 v3 fun _ b => BitVec.ofNat 32 b)
include h2

theorem colField_read (hx : R4 v0 fun _ c i j => X c i j) :
    R2 (k0_pay16 v2 (k0_pay8 v0) (k0_pay15 v0)) (colField X) := by
  have hb := (botRow hx).roll₂ slices_S96x1x128_o0_0_127_S96x1x1 slices_S96x1x128_o0_0_0_S96x1x127
    concatenates_S96x1x1_S96x1x127_S96x1x128_d2 rfl
  have hs := sqSum reduces_S96x1x128_S1x128 (.inl rfl) rfl (topRow hx) hb
  refine (onRow 0 (by decide) h2 hs (colRaw_read hx)).congr fun i j hi hj => ?_
  replace hi : i < 128 := hi
  replace hj : j < 128 := hj
  unfold colField
  by_cases h : i = 0
  · rw [if_pos h, if_pos h, h]; rfl
  · rw [if_neg h, if_neg h]; exact dist_congr X rfl rfl (by omega) rfl

include h3

theorem diaField_read (hx : R4 v0 fun _ c i j => X c i j) :
    R2 (k0_pay17 v2 v3 (k0_pay7 v0) (k0_pay9 v0) (k0_pay11 v0) (k0_pay12 v0)) (diaField X) := by
  have hb := (botRow hx).roll₂ slices_S96x1x128_o0_0_126_S96x1x2 slices_S96x1x128_o0_0_0_S96x1x126
    concatenates_S96x1x2_S96x1x126_S96x1x128_d2 rfl
  have hs := sqSum reduces_S96x1x128_S1x128 (.inl rfl) rfl (topRow hx) hb
  refine (onRow 0 (by decide) h2 hs (R2.sel (p := fun _ b => b = 0) (mask_col 0 (by decide) h3) (rowField_read hx) (diaRaw_read hx))).congr
    fun i j hi hj => ?_
  replace hi : i < 128 := hi
  replace hj : j < 128 := hj
  unfold diaField rowField
  by_cases h : i = 0
  · rw [if_pos h, if_pos h, h]; rfl
  · rw [if_neg h, if_neg h]
    by_cases h' : j = 0
    · rw [if_pos h', if_pos h']; exact dist_congr X rfl rfl (by omega) (by omega)
    · rw [if_neg h']; exact dist_congr X rfl rfl (by omega) rfl

theorem adiField_read (hx : R4 v0 fun _ c i j => X c i j) :
    R2 (k0_pay18 v2 v3 (k0_pay10 v0) (k0_pay11 v0) (k0_pay12 v0) (k0_pay13 v0) (k0_pay14 v0)) (adiField X) := by
  have hs := sqSum reduces_S96x1x128_S1x128 (.inl rfl) rfl (topRow hx) (botRow hx)
  have hc := sqSum reduces_S96x128x1_S128x1 (.inl rfl) rfl (rightCol hx) (leftColBack hx)
  refine (onRow 0 (by decide) h2 hs (R2.sel (p := fun _ b => b = 127) (mask_col 127 (by decide) h3)
    ((hc.recast shapeCasts_S128x1_S128x1).cols (by decide) broadcasts_S128x1_S128x128) (adiRaw_read hx))).congr
    fun i j hi hj => ?_
  replace hi : i < 128 := hi
  replace hj : j < 128 := hj
  unfold adiField
  by_cases h : i = 0
  · rw [if_pos h, if_pos h, h]; rfl
  · rw [if_neg h, if_neg h]
    by_cases h' : j = 127
    · rw [if_pos h']; exact dist_congr X rfl h'.symm (by omega) (by omega)
    · rw [if_neg h']; exact dist_congr X rfl rfl (by omega) rfl

end Fields

end Scan
-- ==== Proof.KernelBlock.lean ====
/-
  What one block of the kernel leaves in its output block: the image plus the channel mix of the gated pixels.
-/
module

public import proofs.«01_k».proof.Proof.KernelFields

@[expose] public section

set_option maxRecDepth 16384

noncomputable section

namespace Scan

open Idealize.ShloMosaic Cert.KernelIdeal Cert.KernelIdeal.Gen

/-! ## The fields of the four directions that run backwards -/

/-- The squared distance to the pixel after in row order. -/
def rowAhead (X : ℕ → ℕ → ℕ → EReal) (i j : ℕ) : EReal :=
  if j = 127 then rowField X ((i + 1) % 128) ((j + 1) % 128) else rowField X i ((j + 1) % 128)
/-- The squared distance to the pixel after in column order. -/
def colAhead (X : ℕ → ℕ → ℕ → EReal) (i j : ℕ) : EReal :=
  if i = 127 then colField X ((i + 1) % 128) ((j + 1) % 128) else colField X ((i + 1) % 128) j
/-- The squared distance to the pixel after along the diagonals. -/
def diaAhead (X : ℕ → ℕ → ℕ → EReal) (i j : ℕ) : EReal :=
  if i = 127 then diaField X ((i + 1) % 128) ((j + 2) % 128) else diaField X ((i + 1) % 128) ((j + 1) % 128)
/-- The squared distance to the pixel after along the antidiagonals. -/
def adiAhead (X : ℕ → ℕ → ℕ → EReal) (i j : ℕ) : EReal :=
  if i = 127 then adiField X ((i + 1) % 128) j else adiField X ((i + 1) % 128) ((j + 127) % 128)

section Rolls
variable {z : FVec Ideal S128x128 .f32} {f : ℕ → ℕ → EReal}

/-- The image moved up by one row. -/
theorem up (h : R2 z f) : R2 (concatenate S128x128 0 [⟨S127x128, extractStridedSlice S127x128 ![1, 0] z slices_S128x128_o1_0_S127x128⟩,
    ⟨S1x128, extractStridedSlice S1x128 ![0, 0] z slices_S128x128_o0_0_S1x128⟩] concatenates_S127x128_S1x128_S128x128_d0)
    fun a b => f ((a + 1) % 128) b :=
  h.roll₀ slices_S128x128_o1_0_S127x128 slices_S128x128_o0_0_S1x128 concatenates_S127x128_S1x128_S128x128_d0 rfl
/-- The image moved left by one column. -/
theorem left (h : R2 z f) : R2 (concatenate S128x128 1 [⟨S128x127, extractStridedSlice S128x127 ![0, 1] z slices_S128x128_o0_1_S128x127⟩,
    ⟨S128x1, extractStridedSlice S128x1 ![0, 0] z slices_S128x128_o0_0_S128x1⟩] concatenates_S128x127_S128x1_S128x128_d1)
    fun a b => f a ((b + 1) % 128) :=
  h.roll₁ slices_S128x128_o0_1_S128x127 slices_S128x128_o0_0_S128x1 concatenates_S128x127_S128x1_S128x128_d1 rfl
/-- The image moved left by two columns. -/
theorem left2 (h : R2 z f) : R2 (concatenate S128x128 1 [⟨S128x126, extractStridedSlice S128x126 ![0, 2] z slices_S128x128_o0_2_S128x126⟩,
    ⟨S128x2, extractStridedSlice S128x2 ![0, 0] z slices_S128x128_o0_0_S128x2⟩] concatenates_S128x126_S128x2_S128x128_d1)
    fun a b => f a ((b + 2) % 128) :=
  h.roll₁ slices_S128x128_o0_2_S128x126 slices_S128x128_o0_0_S128x2 concatenates_S128x126_S128x2_S128x128_d1 rfl
/-- The image moved right by one column. -/
theorem right (h : R2 z f) : R2 (concatenate S128x128 1 [⟨S128x1, extractStridedSlice S128x1 ![0, 127] z slices_S128x128_o0_127_S128x1⟩,
    ⟨S128x127, extractStridedSlice S128x127 ![0, 0] z slices_S128x128_o0_0_S128x127⟩] concatenates_S128x1_S128x127_S128x128_d1)
    fun a b => f a ((b + 127) % 128) :=
  h.roll₁ slices_S128x128_o0_127_S128x1 slices_S128x128_o0_0_S128x127 concatenates_S128x1_S128x127_S128x128_d1 rfl

end Rolls

variable {v0 : Vec Ideal S1x96x128x128 .f32} {X : ℕ → ℕ → ℕ → EReal}
variable {v2 v3 : IVec S128x128 32} (h2 : R2 v2 fun a _ => BitVec.ofNat 32 a) (h3 : R2 v3 fun _ b => BitVec.ofNat 32 b)

section Ahead
variable {D : FVec Ideal S128x128 .f32}

include h3 in
theorem rowAhead_read (hD : R2 D (rowField X)) : R2 (k0_pay19 v3 D) (rowAhead X) :=
  R2.sel (p := fun _ b => b = 127) (mask_col 127 (by decide) h3) (left (up hD)) (left hD)
include h2 in
theorem colAhead_read (hD : R2 D (colField X)) : R2 (k0_pay20 v2 D 127#32) (colAhead X) :=
  R2.sel (p := fun a _ => a = 127) (mask_row 127 (by decide) h2) (left (up hD)) (up hD)
include h2 in
theorem diaAhead_read (hD : R2 D (diaField X)) : R2 (k0_pay21 v2 D) (diaAhead X) :=
  R2.sel (p := fun a _ => a = 127) (mask_row 127 (by decide) h2) (left2 (up hD)) (left (up hD))
include h2 in
theorem adiAhead_read (hD : R2 D (adiField X)) : R2 (k0_pay22 v2 D) (adiAhead X) :=
  R2.sel (p := fun a _ => a = 127) (mask_row 127 (by decide) h2) (up hD) (right (up hD))

end Ahead

/-! ## The first pixel of each direction -/

/-- A field of a direction starting at the top left pixel, where it is the squared norm of that pixel. -/
def fromTop (X : ℕ → ℕ → ℕ → EReal) (f : ℕ → ℕ → EReal) (i j : ℕ) : EReal :=
  if i = 0 ∧ j = 0 then norm X 0 0 else f i j
/-- A field of a direction starting at column `n` of the bottom row, where it is the squared norm of that pixel. -/
def fromBottom (X : ℕ → ℕ → ℕ → EReal) (n : ℕ) (f : ℕ → ℕ → EReal) (i j : ℕ) : EReal :=
  if i = 127 ∧ j = n then norm X 127 j else f i j

theorem topNorm (hx : R4 v0 fun _ c i j => X c i j) : R2 (k0_pay23 (k0_pay11 v0)) fun _ b => norm X 0 b :=
  have h := ((topRow hx).slice 0 0 0 slices_S96x1x128_o0_0_0_S96x1x1)
  (sqNorm reduces_S96x1x1_S1x1 (.inl rfl) rfl h h).congr fun a b _ _ =>
    Finset.sum_congr rfl fun c _ => by simp only [Nat.zero_add]
theorem botNorm (hx : R4 v0 fun _ c i j => X c i j) : R2 (k0_pay24 (k0_pay12 v0)) fun _ b => norm X 127 b :=
  sqNorm reduces_S96x1x128_S1x128 (.inl rfl) rfl (botRow hx) (botRow hx)

include h2 h3 in
theorem topMask (i : S128x128.Idx) : k0_pay25 v2 v3 i = 1 ↔ (i 0).val = 0 ∧ (i 1).val = 0 :=
  mask_and (mask_row 0 (by decide) h2 i) (mask_col 0 (by decide) h3 i)

section Patch
variable {D : FVec Ideal S128x128 .f32} {f : ℕ → ℕ → EReal}

include h2 h3 in
theorem fromTop_read (hx : R4 v0 fun _ c i j => X c i j) (hD : R2 D f) :
    R2 (select (k0_pay25 v2 v3) (broadcastTo S128x128 (shapeCast S1x1 (k0_pay23 (k0_pay11 v0)) shapeCasts_S1x1_S1x1)
      broadcasts_S1x1_S128x128) D) (fromTop X f) :=
  R2.sel (p := fun a b => a = 0 ∧ b = 0) (topMask h2 h3)
    (((topNorm hx).recast shapeCasts_S1x1_S1x1).point broadcasts_S1x1_S128x128) hD

include h2 h3 in
theorem fromBottom_read (n : ℕ) (hn : n < 128) (hx : R4 v0 fun _ c i j => X c i j) (hD : R2 D f) :
    R2 (select (andi (k0_pay26 v2) (cmpi .eq v3 (broadcast S128x128 (BitVec.ofNat 32 n))))
      (broadcastTo S128x128 (shapeCast S1x128 (k0_pay24 (k0_pay12 v0)) shapeCasts_S1x128_S1x128)
        broadcasts_S1x128_S128x128) D) (fromBottom X n f) :=
  R2.sel (p := fun a b => a = 127 ∧ b = n)
    (fun i => mask_and (mask_row 127 (by decide) h2 i) (mask_col n hn h3 i))
    (((botNorm hx).recast shapeCasts_S1x128_S1x128).rows (by decide) broadcasts_S1x128_S128x128) hD

end Patch

/-- Gating a field. -/
theorem bend_read {D : FVec Ideal S128x128 .f32} {f : ℕ → ℕ → EReal} (hD : R2 D f) :
    R2 (tanh (sqrt (addf D (broadcast S128x128 (Scalar.ofBits .f32 0x2B8CBCCC#32))))) fun a b => bend (f a b) :=
  hD.map bend

/-- The sum of two fields. -/
theorem add_read {D E : FVec Ideal S128x128 .f32} {f g : ℕ → ℕ → EReal} (hD : R2 D f) (hE : R2 E g) :
    R2 (addf D E) fun a b => f a b + g a b :=
  hD.map₂ (fun x y : EReal => x + y) hE

/-- The sum of the eight bent fields at a pixel, in the order in which the kernel adds them. -/
def total (X : ℕ → ℕ → ℕ → EReal) (i j : ℕ) : EReal :=
  bend (fromTop X (rowField X) i j) + bend (fromBottom X 127 (rowAhead X) i j)
    + bend (fromTop X (colField X) i j) + bend (fromBottom X 127 (colAhead X) i j)
    + bend (fromTop X (diaField X) i j) + bend (fromBottom X 126 (diaAhead X) i j)
    + bend (fromTop X (adiField X) i j) + bend (fromBottom X 0 (adiAhead X) i j)

/-- The output block from the eight fields: the image plus the channel mix of the gated pixels. -/
theorem mix_read {D0 D1 D2 D3 D4 D5 : FVec Ideal S128x128 .f32} {w : FVec Ideal S96x96 .bf16}
    {f0 f1 f2 f3 f4 f5 : ℕ → ℕ → EReal} {W : ℕ → ℕ → EReal} (hx : R4 v0 fun _ c i j => X c i j)
    (h0 : R2 D0 f0) (h1 : R2 D1 f1) (h2 : R2 D2 f2) (h3 : R2 D3 f3) (h4 : R2 D4 f4)
    (h5 : R2 (tanh D5) f5) (hw : R2 w W) :
    R4 (k0_pay1 (k0_pay2 v0) (k0_pay3 v0) D0 D1 D2 D3 D4 D5 w) fun _ d i j =>
      X d i j + ∑ c : Fin 96, W d c.val * (X c.val i j * (c16 + c08 * (f4 i j + f5 i j + bend (f0 i j) + bend (f2 i j)
        + bend (f1 i j) + bend (f3 i j)))) := by
  have ht := add_read (add_read (add_read (add_read (add_read h4 h5) (bend_read h0)) (bend_read h2)) (bend_read h1))
    (bend_read h3)
  have hl := R2.line shapeCasts_S128x128_S1x16384 rfl (ht.map fun t => c16 + c08 * t)
  have hp := (lines hx).map₂ (fun x y : EReal => x * y) (hl.rows (m := 96) (by norm_num) broadcasts_S1x16384_S96x16384)
  have hm := R2.product (D := dot_S96x96_S96x16384_S96x16384_1_0_0_1_n_n) rfl
    (hw.recast shapeCasts_S96x96_S96x96) hp
  have hs := (images hx).map₂ (fun x y : EReal => x + y) (R2.stack (m := 128) (n := 128) shapeCasts_S96x16384_S96x128x128 rfl hm)
  refine (hs.lead shapeCasts_S96x128x128_S1x96x128x128).congr fun _ d i j _ _ hi hj => ?_
  replace hi : i < 128 := hi
  replace hj : j < 128 := hj
  have e₁ : (i * 128 + j) / 128 = i := by omega
  have e₂ : (i * 128 + j) % 128 = j := by omega
  simp only [e₁, e₂]

/-- The output block. -/
theorem block_read {x0 : Vec Ideal S96x96 .bf16} {x1 : Vec Ideal S1x96x128x128 .f32} {W : ℕ → ℕ → EReal}
    (hw : R2 x0 W) (hx : R4 x1 fun _ c i j => X c i j) :
    R4 (Cert.KernelIdeal.Gen.out0_2 x0 x1) fun _ d i j =>
      X d i j + ∑ c : Fin 96, W d c.val * (X c.val i j * (c16 + c08 * total X i j)) := by
  have e1 : View.ld x1 r0_0 = x1 := View.ld_unit_zero (funext fun a => by fin_cases a <;> rfl) _ x1
  have e0 : View.ld x0 r0_1 = x0 := View.ld_unit_zero (funext fun a => by fin_cases a <;> rfl) _ x0
  have h2 := rowIdx x0 x1
  have h3 := colIdx x0 x1
  rw [← e1] at hx
  rw [← e0] at hw
  have d0 := rowField_read hx
  have d1 := colField_read h2 hx
  have d4 := diaField_read h2 h3 hx
  have d5 := adiField_read h2 h3 hx
  have n0 := fromTop_read h2 h3 hx d0
  have n1 := fromTop_read h2 h3 hx d1
  have n4 := fromTop_read h2 h3 hx d4
  have n5 := fromTop_read h2 h3 hx d5
  have n2 := fromBottom_read h2 h3 127 (by decide) hx (rowAhead_read h3 d0)
  have n3 := fromBottom_read h2 h3 127 (by decide) hx (colAhead_read h2 d1)
  have n6 := fromBottom_read h2 h3 126 (by decide) hx (diaAhead_read h2 d4)
  have n7 := fromBottom_read h2 h3 0 (by decide) hx (adiAhead_read h2 d5)
  have h := mix_read hx n4 n5 n6 n7 (add_read (add_read (bend_read n0) (bend_read n2)) (bend_read n1)) (bend_read n3) hw
  have hz : (![0, 0, 0, 0] : Fin S1x96x128x128.rank → ℕ) = fun _ => 0 := funext fun a => by fin_cases a <;> rfl
  have e : Cert.KernelIdeal.Gen.out0_2 x0 x1 = _ :=
    View.canon_unit_zero hz inb_S1x96x128x128_S1x96x128x128_0_0_0_0 _
  rw [e]
  exact h

end Scan
-- ==== Proof.KernelArray.lean ====
/-
  What the kernel's result array holds: at image `b`, channel `d`, pixel `(i, j)` the input plus the channel mix of the
  gated pixels of image `b`.
-/
module

public import proofs.«01_k».proof.Proof.Gen.KernelIdeal.Value
public import proofs.«01_k».proof.Proof.KernelBlock

@[expose] public section

set_option maxRecDepth 16384

noncomputable section

namespace Scan

open Idealize.ShloMosaic

/-- An array with four axes read at natural numbers (0 outside it). -/
def at4 {d : Fin 4 → ℕ} (x : (⟨4, d⟩ : Shape).Idx → EReal) (a b c e : ℕ) : EReal :=
  if h : a < d 0 ∧ b < d 1 ∧ c < d 2 ∧ e < d 3 then
    x fun | ⟨0, _⟩ => ⟨a, h.1⟩ | ⟨1, _⟩ => ⟨b, h.2.1⟩ | ⟨2, _⟩ => ⟨c, h.2.2.1⟩ | ⟨3, _⟩ => ⟨e, h.2.2.2⟩
  else 0

theorem at4_read {d : Fin 4 → ℕ} (x : (⟨4, d⟩ : Shape).Idx → EReal) : R4 x (at4 x) := by
  intro i
  refine Eq.trans ?_ (dif_pos ⟨(i 0).isLt, (i 1).isLt, (i 2).isLt, (i 3).isLt⟩).symm
  congr 1
  funext a
  match a with
  | ⟨0, _⟩ => rfl
  | ⟨1, _⟩ => rfl
  | ⟨2, _⟩ => rfl
  | ⟨3, _⟩ => rfl

/-- An array with two axes read at natural numbers (0 outside it). -/
def at2 {d : Fin 2 → ℕ} (x : (⟨2, d⟩ : Shape).Idx → EReal) (a b : ℕ) : EReal :=
  if h : a < d 0 ∧ b < d 1 then x fun | ⟨0, _⟩ => ⟨a, h.1⟩ | ⟨1, _⟩ => ⟨b, h.2⟩ else 0

theorem at2_read {d : Fin 2 → ℕ} (x : (⟨2, d⟩ : Shape).Idx → EReal) : R2 x (at2 x) := by
  intro i
  refine Eq.trans ?_ (dif_pos ⟨(i 0).isLt, (i 1).isLt⟩).symm
  congr 1
  funext a
  match a with
  | ⟨0, _⟩ => rfl
  | ⟨1, _⟩ => rfl

/-- The result at channel `d` of pixel `(i, j)` of image `b`, from the images and the mixing matrix. -/
def result (x : ℕ → ℕ → ℕ → ℕ → EReal) (w : ℕ → ℕ → EReal) (b d i j : ℕ) : EReal :=
  x b d i j + ∑ c : Fin 96, w c.val d * (x b c.val i j * (c16 + c08 * total (x b) i j))

end Scan

namespace Cert.KernelIdeal.Scanned

open Cert.KernelIdeal Cert.KernelIdeal.Gen Idealize.ShloMosaic Idealize.ShloMosaic.TcCoe Idealize.SL.Sem Scan
open Idealize.ShloMosaic.Pipeline (Dat)

variable (m : (ℓ : Loc nD τ sig) → Buf (Elt Ideal) ℓ) (ρ : Dev nD → PrngReg)

/-- The images. -/
abbrev imgs (c : Dev nD) : S4x96x128x128.Idx → EReal := m ((c : Thread nD τ).loc main_arg0)
/-- The mixing matrix. -/
abbrev mixer (c : Dev nD) : S96x96.Idx → EReal := m ((c : Thread nD τ).loc main_arg1)

/-- What the result array is shown to hold. -/
def final (c : Dev nD) : Buf (Elt Ideal) ((c : Thread nD τ).loc main_v2) := fun i : S4x96x128x128.Idx =>
  result (at4 (imgs m c)) (at2 (mixer m c)) (i 0).val (i 1).val (i 2).val (i 3).val

/-- The kernel is given the mixing matrix transposed. -/
theorem weights (c : Dev nD) : R2 (V m c main_v1 : S96x96.Idx → EReal) fun a b => at2 (mixer m c) b a := by
  intro i
  have h : (V m c main_v1 : S96x96.Idx → EReal) = transpose S96x96 [1, 0] (mixer m c) transposes_S96x96_S96x96_1_0 := by
    show StableHlo.after hostOps0 _ (Proc.devRef .tc main_v1) = _
    unfold hostOps0
    after_results
    rfl
  rw [h, transpose_apply [1, 0] (mixer m c) transposes_S96x96_S96x96_1_0 i (ValueIdx.ix2 (i 1) (i 0))
    (fun b => by fin_cases b <;> rfl)]
  exact at2_read (mixer m c) _

theorem index1 : ∀ t : Fin cfg0.N, win0_1.index t = ![t.val, 0, 0, 0] :=
  (by decide +kernel : ∀ t : Fin grid0.N, win0_1.index t = ![t.val, 0, 0, 0])
theorem index2 : ∀ t : Fin cfg0.N, win0_2.index t = ![t.val, 0, 0, 0] :=
  (by decide +kernel : ∀ t : Fin grid0.N, win0_2.index t = ![t.val, 0, 0, 0])
theorem index0 : ∀ t : Fin cfg0.N, win0_0.index t = ![0, 0] :=
  (by decide +kernel : ∀ t : Fin grid0.N, win0_0.index t = ![0, 0])

/-- The weights block at any point is the whole transposed mixing matrix. -/
theorem weights_blk (c : Dev nD) (t : Fin cfg0.N) : R2 (iblk m c 0 t : S96x96.Idx → EReal) fun a b => at2 (mixer m c) b a := by
  intro y
  refine (weights m c ((win0_0.rect t).emb y)).trans ?_
  have h0 : ((win0_0.rect t).emb y 0 : ℕ) = y 0 := win0_0.rect_emb_val_of_index_zero t 0 (by rw [index0]; rfl) y
  have h1 : ((win0_0.rect t).emb y 1 : ℕ) = y 1 := win0_0.rect_emb_val_of_index_zero t 1 (by rw [index0]; rfl) y
  rw [h0, h1]

/-- The image block at point `t` is image `t`. -/
theorem image_blk (c : Dev nD) (t : Fin cfg0.N) :
    R4 (iblk m c 1 t : S1x96x128x128.Idx → EReal) fun _ d i j => at4 (imgs m c) t.val d i j := by
  intro y
  have e : V m c main_arg0 = imgs m c := V_main_arg0 m c
  have h : (iblk m c 1 t : S1x96x128x128.Idx → EReal) y = imgs m c ((win0_1.rect t).emb y) := congrFun e _
  have h0 : ((win0_1.rect t).emb y 0 : ℕ) = t.val := by
    rw [win0_1.rect_emb_val, index1]
    have : (y 0).val < 1 := (y 0).isLt
    show t.val * 1 + (y 0).val = t.val
    omega
  have h1 : ((win0_1.rect t).emb y 1 : ℕ) = y 1 := win0_1.rect_emb_val_of_index_zero t 1 (by rw [index1]; rfl) y
  have h2 : ((win0_1.rect t).emb y 2 : ℕ) = y 2 := win0_1.rect_emb_val_of_index_zero t 2 (by rw [index1]; rfl) y
  have h3 : ((win0_1.rect t).emb y 3 : ℕ) = y 3 := win0_1.rect_emb_val_of_index_zero t 3 (by rw [index1]; rfl) y
  rw [h]
  refine (at4_read (imgs m c) _).trans ?_
  rw [h0, h1, h2, h3]

/-- What point `t` writes back is image `t` of the final array. -/
theorem flushed_eq (c : Dev nD) (t : Fin cfg0.N) :
    (dats m 0 c).flushed 2 t = (win0_2.blk t).view.read (Elt Ideal) (final m c) := by
  rw [Cert.KernelIdeal.Value.flushed2]
  funext y
  have h := block_read (weights_blk m c t) (image_blk m c t) y
  have h0 : ((win0_2.rect t).emb y 0 : ℕ) = t.val := by
    rw [win0_2.rect_emb_val, index2]
    have : (y 0).val < 1 := (y 0).isLt
    show t.val * 1 + (y 0).val = t.val
    omega
  have h1 : ((win0_2.rect t).emb y 1 : ℕ) = y 1 := win0_2.rect_emb_val_of_index_zero t 1 (by rw [index2]; rfl) y
  have h2 : ((win0_2.rect t).emb y 2 : ℕ) = y 2 := win0_2.rect_emb_val_of_index_zero t 2 (by rw [index2]; rfl) y
  have h3 : ((win0_2.rect t).emb y 3 : ℕ) = y 3 := win0_2.rect_emb_val_of_index_zero t 3 (by rw [index2]; rfl) y
  refine h.trans ?_
  show _ = result (at4 (imgs m c)) (at2 (mixer m c)) ((win0_2.rect t).emb y 0 : ℕ) ((win0_2.rect t).emb y 1 : ℕ)
    ((win0_2.rect t).emb y 2 : ℕ) ((win0_2.rect t).emb y 3 : ℕ)
  rw [h0, h1, h2, h3]
  rfl

/-- Image `t` of the array is what point `t` covers. -/
theorem mem_blk (t : Fin cfg0.N) (i : S4x96x128x128.Idx) (h : (i 0).val = t.val) : i ∈ ((cfg0.win 2).blk t).view.set := by
  show i ∈ ((View.whole main_v2).slice (win0_2.rect t)).set
  rw [View.set_slice_whole, Rect.mem_set_unit]
  have e : win0_2.index t 0 * win0_2.size 0 = t.val ∧ win0_2.xsize (grid0.coords t) 0 = 1
      ∧ win0_2.index t 1 * win0_2.size 1 = 0 ∧ win0_2.xsize (grid0.coords t) 1 = 96
      ∧ win0_2.index t 2 * win0_2.size 2 = 0 ∧ win0_2.xsize (grid0.coords t) 2 = 128
      ∧ win0_2.index t 3 * win0_2.size 3 = 0 ∧ win0_2.xsize (grid0.coords t) 3 = 128 :=
    (by decide +kernel : ∀ t : Fin grid0.N, win0_2.index t 0 * win0_2.size 0 = t.val ∧ win0_2.xsize (grid0.coords t) 0 = 1
      ∧ win0_2.index t 1 * win0_2.size 1 = 0 ∧ win0_2.xsize (grid0.coords t) 1 = 96
      ∧ win0_2.index t 2 * win0_2.size 2 = 0 ∧ win0_2.xsize (grid0.coords t) 2 = 128
      ∧ win0_2.index t 3 * win0_2.size 3 = 0 ∧ win0_2.xsize (grid0.coords t) 3 = 128) t
  have h1 : (i 1).val < 96 := (i 1).isLt
  have h2 : (i 2).val < 128 := (i 2).isLt
  have h3 : (i 3).val < 128 := (i 3).isLt
  intro a
  have key : win0_2.index t a * win0_2.size a ≤ (i a : ℕ)
      ∧ (i a : ℕ) < win0_2.index t a * win0_2.size a + win0_2.xsize (grid0.coords t) a := by
    match a with
    | ⟨0, _⟩ =>
      show win0_2.index t 0 * win0_2.size 0 ≤ (i 0).val
        ∧ (i 0).val < win0_2.index t 0 * win0_2.size 0 + win0_2.xsize (grid0.coords t) 0
      rw [e.1, e.2.1]; omega
    | ⟨1, _⟩ =>
      show win0_2.index t 1 * win0_2.size 1 ≤ (i 1).val
        ∧ (i 1).val < win0_2.index t 1 * win0_2.size 1 + win0_2.xsize (grid0.coords t) 1
      rw [e.2.2.1, e.2.2.2.1]; omega
    | ⟨2, _⟩ =>
      show win0_2.index t 2 * win0_2.size 2 ≤ (i 2).val
        ∧ (i 2).val < win0_2.index t 2 * win0_2.size 2 + win0_2.xsize (grid0.coords t) 2
      rw [e.2.2.2.2.1, e.2.2.2.2.2.1]; omega
    | ⟨3, _⟩ =>
      show win0_2.index t 3 * win0_2.size 3 ≤ (i 3).val
        ∧ (i 3).val < win0_2.index t 3 * win0_2.size 3 + win0_2.xsize (grid0.coords t) 3
      rw [e.2.2.2.2.2.2.1, e.2.2.2.2.2.2.2]; omega
  exact key

/-- The result's blocks tile its array. -/
theorem cover (i : S4x96x128x128.Idx) :
    ∃ t : Fin cfg0.N, (cfg0.win 2).flush t = true ∧ i ∈ ((cfg0.win 2).blk t).view.set := by
  have h0 : (i 0).val < 4 := (i 0).isLt
  have hN : cfg0.N = 4 := N_0
  exact ⟨⟨(i 0).val, by omega⟩, flush0_2 _, mem_blk _ i rfl⟩

/-- The result array. -/
theorem final_eq (c : Dev nD) : (dats m 0 c).arrAt 2 cfg0.N = final m c :=
  (dats m 0 c).arrAt_eq_of_cover 2 (final m c) (fun t _ => flushed_eq m c t) cover

/-- The run: the result array holds the scanned images, the arguments are unchanged. -/
theorem run : θ_run defs (onTc (τ := τ) (main (F := Ideal))) ⟨m, fun _ => 0, ρ⟩ fun r => ∀ c : Dev nD,
      r.2.mem ((c : Thread nD τ).loc main_v2) = final m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2.1, (h c).2.2⟩)
    (Cert.KernelIdeal.Value.run_blocks m ρ)

end Cert.KernelIdeal.Scanned
-- ==== Proof.Layout.lean ====
/-
  More readings by natural-number coordinates, for arrays of rank three and four: the last two axes merged or split or
  exchanged, a line reversed, eight unit pieces put one after the other, and a line shifted by one place.
-/
module

public import proofs.«01_k».proof.Proof.Reads

@[expose] public section

namespace Scan

open Idealize.ShloMosaic Idealize.ShloMosaic.ValueIdx

variable {α : Type}

/-- The last two axes merged into one: place `l` holds row `l / n`, column `l % n`. -/
theorem R4.merge {a k m n l : ℕ} {x : (⟨4, ![a, k, m, n]⟩ : Shape).Idx → α} {f : ℕ → ℕ → ℕ → ℕ → α}
    (hc : (⟨4, ![a, k, m, n]⟩ : Shape).ShapeCasts ⟨3, ![a, k, l]⟩) (hl : l = m * n) (h : R4 x f) :
    R3 (shapeCast ⟨3, ![a, k, l]⟩ x hc) fun b c p => f b c (p / n) (p % n) := by
  subst hl
  intro j
  have h0 : (j 0).val < a := (j 0).isLt
  have h1 : (j 1).val < k := (j 1).isLt
  have h2 : (j 2).val < m * n := (j 2).isLt
  have hn : 0 < n := Nat.pos_of_ne_zero fun e => by simp [e] at h2
  refine (shapeCast_apply x hc j (ix4 ⟨(j 0).val, h0⟩ ⟨(j 1).val, h1⟩
    ⟨(j 2).val / n, Nat.div_lt_of_lt_mul (h2.trans_eq (Nat.mul_comm m n))⟩ ⟨(j 2).val % n, Nat.mod_lt _ hn⟩) ?_).trans (h _)
  rw [Shape.rowMajor_val_four, Shape.rowMajor_val_three]
  show (((j 0).val * k + (j 1).val) * m + (j 2).val / n) * n + (j 2).val % n
    = ((j 0).val * k + (j 1).val) * (m * n) + (j 2).val
  have := Nat.div_add_mod (j 2).val n
  rw [Nat.add_mul, Nat.mul_assoc, Nat.add_assoc, Nat.mul_comm ((j 2).val / n) n, this]

/-- The last axis split into two: row `i`, column `j` hold place `i * n + j`. -/
theorem R3.split {a k m n l : ℕ} {x : (⟨3, ![a, k, l]⟩ : Shape).Idx → α} {f : ℕ → ℕ → ℕ → α}
    (hc : (⟨3, ![a, k, l]⟩ : Shape).ShapeCasts ⟨4, ![a, k, m, n]⟩) (hl : l = m * n) (h : R3 x f) :
    R4 (shapeCast ⟨4, ![a, k, m, n]⟩ x hc) fun b c i j => f b c (i * n + j) := by
  subst hl
  intro j
  have h0 : (j 0).val < a := (j 0).isLt
  have h1 : (j 1).val < k := (j 1).isLt
  have h2 : (j 2).val < m := (j 2).isLt
  have h3 : (j 3).val < n := (j 3).isLt
  have hlt : (j 2).val * n + (j 3).val < m * n := by
    have := Nat.mul_le_mul_right n (Nat.succ_le_of_lt h2); rw [Nat.succ_mul] at this; omega
  refine (shapeCast_apply x hc j (ix3 ⟨(j 0).val, h0⟩ ⟨(j 1).val, h1⟩ ⟨(j 2).val * n + (j 3).val, hlt⟩) ?_).trans (h _)
  rw [Shape.rowMajor_val_four, Shape.rowMajor_val_three]
  show ((j 0).val * k + (j 1).val) * (m * n) + ((j 2).val * n + (j 3).val)
    = (((j 0).val * k + (j 1).val) * m + (j 2).val) * n + (j 3).val
  rw [Nat.add_mul (((j 0).val * k + (j 1).val) * m), Nat.mul_assoc ((j 0).val * k + (j 1).val), Nat.add_assoc]

/-- The last two axes exchanged. -/
theorem R4.swap {a k m n : ℕ} {x : (⟨4, ![a, k, m, n]⟩ : Shape).Idx → α} {f : ℕ → ℕ → ℕ → ℕ → α}
    (ht : (⟨4, ![a, k, m, n]⟩ : Shape).Transposes [0, 1, 3, 2] ⟨4, ![a, k, n, m]⟩) (h : R4 x f) :
    R4 (transpose ⟨4, ![a, k, n, m]⟩ [0, 1, 3, 2] x ht) fun b c i j => f b c j i := by
  intro j
  exact (transpose_apply [0, 1, 3, 2] x ht j (ix4 ⟨(j 0).val, (j 0).isLt⟩ ⟨(j 1).val, (j 1).isLt⟩ ⟨(j 3).val, (j 3).isLt⟩
    ⟨(j 2).val, (j 2).isLt⟩) (fun b => match b with
      | ⟨0, _⟩ => rfl
      | ⟨1, _⟩ => rfl
      | ⟨2, _⟩ => rfl
      | ⟨3, _⟩ => rfl)).trans (h _)

/-- A unit second axis dropped. -/
theorem R4.squeeze {a k n : ℕ} {x : (⟨4, ![a, 1, k, n]⟩ : Shape).Idx → α} {f : ℕ → ℕ → ℕ → ℕ → α}
    (hc : (⟨4, ![a, 1, k, n]⟩ : Shape).ShapeCasts ⟨3, ![a, k, n]⟩) (h : R4 x f) :
    R3 (shapeCast ⟨3, ![a, k, n]⟩ x hc) fun b c l => f b 0 c l := by
  intro j
  refine (shapeCast_apply x hc j (ix4 ⟨(j 0).val, (j 0).isLt⟩ ⟨0, Nat.one_pos⟩ ⟨(j 1).val, (j 1).isLt⟩
    ⟨(j 2).val, (j 2).isLt⟩) ?_).trans (h _)
  rw [Shape.rowMajor_val_four, Shape.rowMajor_val_three]
  show (((j 0).val * 1 + 0) * k + (j 1).val) * n + (j 2).val = ((j 0).val * k + (j 1).val) * n + (j 2).val
  rw [Nat.mul_one, Nat.add_zero]

/-- The last axis read backwards. -/
theorem R3.backwards {a k n : ℕ} {x : (⟨3, ![a, k, n]⟩ : Shape).Idx → α} {f : ℕ → ℕ → ℕ → α} (h : R3 x f) :
    R3 (Host.reverse [2] x) fun b c l => f b c (n - 1 - l) := by
  intro j
  refine (h _).trans ?_
  have e : ((j 2).rev).val = n - 1 - (j 2).val := (Fin.val_rev (j 2)).trans (by
    show n - ((j 2).val + 1) = n - 1 - (j 2).val; omega)
  exact congrArg (f (j 0).val (j 1).val) e

/-- Eight pieces of extent one along the second axis, put one after the other. -/
theorem R4.eight {a k n : ℕ} {x : Fin 8 → (⟨4, ![a, 1, k, n]⟩ : Shape).Idx → α} {f : ℕ → ℕ → ℕ → ℕ → α}
    (hc : Shape.Concatenates [⟨4, ![a, 1, k, n]⟩, ⟨4, ![a, 1, k, n]⟩, ⟨4, ![a, 1, k, n]⟩, ⟨4, ![a, 1, k, n]⟩,
      ⟨4, ![a, 1, k, n]⟩, ⟨4, ![a, 1, k, n]⟩, ⟨4, ![a, 1, k, n]⟩, ⟨4, ![a, 1, k, n]⟩] ⟨4, ![a, 8, k, n]⟩ 1)
    (h : ∀ p, R4 (x p) fun b _ c l => f b p.val c l) :
    R4 (concatenate ⟨4, ![a, 8, k, n]⟩ 1 [⟨⟨4, ![a, 1, k, n]⟩, x 0⟩, ⟨⟨4, ![a, 1, k, n]⟩, x 1⟩, ⟨⟨4, ![a, 1, k, n]⟩, x 2⟩,
      ⟨⟨4, ![a, 1, k, n]⟩, x 3⟩, ⟨⟨4, ![a, 1, k, n]⟩, x 4⟩, ⟨⟨4, ![a, 1, k, n]⟩, x 5⟩, ⟨⟨4, ![a, 1, k, n]⟩, x 6⟩,
      ⟨⟨4, ![a, 1, k, n]⟩, x 7⟩] hc) f := by
  intro j
  have hp : ∃ p : Fin 8, (j 1).val = p.val := ⟨⟨(j 1).val, (j 1).isLt⟩, rfl⟩
  obtain ⟨p, hp⟩ := hp
  have key := concatenate_apply_piece (t := ⟨4, ![a, 8, k, n]⟩) (1 : Fin 4)
    [⟨⟨4, ![a, 1, k, n]⟩, x 0⟩, ⟨⟨4, ![a, 1, k, n]⟩, x 1⟩, ⟨⟨4, ![a, 1, k, n]⟩, x 2⟩,
      ⟨⟨4, ![a, 1, k, n]⟩, x 3⟩, ⟨⟨4, ![a, 1, k, n]⟩, x 4⟩, ⟨⟨4, ![a, 1, k, n]⟩, x 5⟩, ⟨⟨4, ![a, 1, k, n]⟩, x 6⟩,
      ⟨⟨4, ![a, 1, k, n]⟩, x 7⟩] hc j p.val p.isLt ⟨4, ![a, 1, k, n]⟩ (x p) (by fin_cases p <;> rfl) rfl p.val
    (by fin_cases p <;> rfl)
    (ix4 ⟨(j 0).val, (j 0).isLt⟩ ⟨0, Nat.one_pos⟩ ⟨(j 2).val, (j 2).isLt⟩ ⟨(j 3).val, (j 3).isLt⟩)
    (fun b hb => by match b with
      | ⟨0, _⟩ => rfl
      | ⟨1, _⟩ => exact absurd rfl hb
      | ⟨2, _⟩ => rfl
      | ⟨3, _⟩ => rfl) hp.symm
  refine key.trans ((h p _).trans ?_)
  show f (j 0).val p.val (j 2).val (j 3).val = _
  rw [hp]

/-- The same with the eight pieces named. -/
theorem R4.eight' {a k n : ℕ} {x₀ x₁ x₂ x₃ x₄ x₅ x₆ x₇ : (⟨4, ![a, 1, k, n]⟩ : Shape).Idx → α} {f : ℕ → ℕ → ℕ → ℕ → α}
    (hc : Shape.Concatenates [⟨4, ![a, 1, k, n]⟩, ⟨4, ![a, 1, k, n]⟩, ⟨4, ![a, 1, k, n]⟩, ⟨4, ![a, 1, k, n]⟩,
      ⟨4, ![a, 1, k, n]⟩, ⟨4, ![a, 1, k, n]⟩, ⟨4, ![a, 1, k, n]⟩, ⟨4, ![a, 1, k, n]⟩] ⟨4, ![a, 8, k, n]⟩ 1)
    (h₀ : R4 x₀ fun b _ c l => f b 0 c l) (h₁ : R4 x₁ fun b _ c l => f b 1 c l) (h₂ : R4 x₂ fun b _ c l => f b 2 c l)
    (h₃ : R4 x₃ fun b _ c l => f b 3 c l) (h₄ : R4 x₄ fun b _ c l => f b 4 c l) (h₅ : R4 x₅ fun b _ c l => f b 5 c l)
    (h₆ : R4 x₆ fun b _ c l => f b 6 c l) (h₇ : R4 x₇ fun b _ c l => f b 7 c l) :
    R4 (concatenate ⟨4, ![a, 8, k, n]⟩ 1 [⟨⟨4, ![a, 1, k, n]⟩, x₀⟩, ⟨⟨4, ![a, 1, k, n]⟩, x₁⟩, ⟨⟨4, ![a, 1, k, n]⟩, x₂⟩,
      ⟨⟨4, ![a, 1, k, n]⟩, x₃⟩, ⟨⟨4, ![a, 1, k, n]⟩, x₄⟩, ⟨⟨4, ![a, 1, k, n]⟩, x₅⟩, ⟨⟨4, ![a, 1, k, n]⟩, x₆⟩,
      ⟨⟨4, ![a, 1, k, n]⟩, x₇⟩] hc) f :=
  R4.eight (x := ![x₀, x₁, x₂, x₃, x₄, x₅, x₆, x₇]) hc fun
    | 0 => h₀ | 1 => h₁ | 2 => h₂ | 3 => h₃ | 4 => h₄ | 5 => h₅ | 6 => h₆ | 7 => h₇

/-- One value put in front of every line. -/
theorem R4.front {a k m n n' : ℕ} {x : (⟨4, ![a, k, m, n]⟩ : Shape).Idx → α} {f : ℕ → ℕ → ℕ → ℕ → α} {u : Shape} {v : u.Idx → α}
    (hp : (⟨4, ![a, k, m, n]⟩ : Shape).Pads ![0, 0, 0, 1] ![0, 0, 0, 0] ![0, 0, 0, 0] ⟨4, ![a, k, m, n']⟩)
    (hu : 0 < u.numel) (hn : n' = n + 1) (h : R4 x f) :
    R4 (pad ⟨4, ![a, k, m, n']⟩ ![0, 0, 0, 1] ![0, 0, 0, 0] ![0, 0, 0, 0] x v hp hu) fun b p c l =>
      if l = 0 then v (Shape.Idx.first hu) else f b p c (l - 1) := by
  subst hn
  intro j
  have h3 : (j 3).val < n + 1 := (j 3).isLt
  by_cases hj : (j 3).val = 0
  · refine Eq.trans (dif_neg fun hin => ?_) (if_pos hj).symm
    have : 1 ≤ (j 3).val := (hin 3).1
    omega
  · refine Eq.trans (dif_pos ?_) ((h _).trans ?_)
    · intro b
      match b with
      | ⟨0, _⟩ => exact ⟨Nat.zero_le _, Nat.mod_one _, (Nat.div_one _).trans_lt (j 0).isLt⟩
      | ⟨1, _⟩ => exact ⟨Nat.zero_le _, Nat.mod_one _, (Nat.div_one _).trans_lt (j 1).isLt⟩
      | ⟨2, _⟩ => exact ⟨Nat.zero_le _, Nat.mod_one _, (Nat.div_one _).trans_lt (j 2).isLt⟩
      | ⟨3, _⟩ => exact ⟨by show 1 ≤ (j 3).val; omega, Nat.mod_one _, (Nat.div_one _).trans_lt (by
          show (j 3).val - 1 < n; omega)⟩
    · refine Eq.trans ?_ (if_neg hj).symm
      show f (((j 0).val - 0) / 1) (((j 1).val - 0) / 1) (((j 2).val - 0) / 1) (((j 3).val - 1) / 1) = _
      simp only [Nat.div_one, Nat.sub_zero]

/-- The coordinate that a broadcast reads along an axis of the same extent. -/
theorem same_axis {n v : ℕ} (h : v < n) : v = if n = 1 then 0 else v := by
  split_ifs <;> omega

/-- A unit second axis added. -/
theorem R3.lift₁ {a k n : ℕ} {x : (⟨3, ![a, k, n]⟩ : Shape).Idx → α} {f : ℕ → ℕ → ℕ → α}
    (hb : (⟨3, ![a, k, n]⟩ : Shape).BroadcastsInDim ⟨4, ![a, 1, k, n]⟩ ![0, 2, 3]) (h : R3 x f) :
    R4 (broadcastInDim ⟨4, ![a, 1, k, n]⟩ ![0, 2, 3] hb x) fun b _ c l => f b c l := fun j =>
  (broadcastInDim_apply _ hb x j (ix3 ⟨(j 0).val, (j 0).isLt⟩ ⟨(j 2).val, (j 2).isLt⟩ ⟨(j 3).val, (j 3).isLt⟩)
    (fun b => match b with
      | ⟨0, _⟩ => same_axis (j 0).isLt
      | ⟨1, _⟩ => same_axis (j 2).isLt
      | ⟨2, _⟩ => same_axis (j 3).isLt)).trans (h _)

/-- A unit third axis added. -/
theorem R3.lift₂ {a k n : ℕ} {x : (⟨3, ![a, k, n]⟩ : Shape).Idx → α} {f : ℕ → ℕ → ℕ → α}
    (hb : (⟨3, ![a, k, n]⟩ : Shape).BroadcastsInDim ⟨4, ![a, k, 1, n]⟩ ![0, 1, 3]) (h : R3 x f) :
    R4 (broadcastInDim ⟨4, ![a, k, 1, n]⟩ ![0, 1, 3] hb x) fun b p _ l => f b p l := fun j =>
  (broadcastInDim_apply _ hb x j (ix3 ⟨(j 0).val, (j 0).isLt⟩ ⟨(j 1).val, (j 1).isLt⟩ ⟨(j 3).val, (j 3).isLt⟩)
    (fun b => match b with
      | ⟨0, _⟩ => same_axis (j 0).isLt
      | ⟨1, _⟩ => same_axis (j 1).isLt
      | ⟨2, _⟩ => same_axis (j 3).isLt)).trans (h _)

/-- A unit third axis repeated. -/
theorem R4.repeat₂ {a k m n : ℕ} {x : (⟨4, ![a, k, 1, n]⟩ : Shape).Idx → α} {f : ℕ → ℕ → ℕ → ℕ → α}
    (hb : (⟨4, ![a, k, 1, n]⟩ : Shape).BroadcastsInDim ⟨4, ![a, k, m, n]⟩ ![0, 1, 2, 3]) (h : R4 x f) :
    R4 (broadcastInDim ⟨4, ![a, k, m, n]⟩ ![0, 1, 2, 3] hb x) fun b p _ l => f b p 0 l := fun j =>
  (broadcastInDim_apply _ hb x j (ix4 ⟨(j 0).val, (j 0).isLt⟩ ⟨(j 1).val, (j 1).isLt⟩ ⟨0, Nat.one_pos⟩
    ⟨(j 3).val, (j 3).isLt⟩) (fun b => match b with
      | ⟨0, _⟩ => same_axis (j 0).isLt
      | ⟨1, _⟩ => same_axis (j 1).isLt
      | ⟨2, _⟩ => (if_pos rfl).symm
      | ⟨3, _⟩ => same_axis (j 3).isLt)).trans (h _)

end Scan
-- ==== Proof.RefIndex.lean ====
/-
  The index arrays of the reference: the diagonal numbers `(row + column) mod 128` and `(column - row) mod 128`, the
  inverse permutations that sorting them yields, and the lookup along a row by such an array.
-/
module

public import proofs.«01_k».proof.Proof.Gen.ReferenceIdeal.Read
public import Idealize.ShloMosaic.Lib.SortFacts
public import Idealize.ShloMosaic.Lib.ReduceAll
public import proofs.«01_k».proof.Proof.Reads

@[expose] public section

set_option maxRecDepth 16384

noncomputable section

namespace Scan

open Idealize.ShloMosaic Cert.ReferenceIdeal Cert.ReferenceIdeal.Gen Cert.ReferenceIdeal.Read

/-! ## Remainders modulo 128 -/

/-- The remainder by 128 with the sign of the divisor, from the truncating remainder, as the reference computes it. -/
def fmod (s : BitVec 32) : BitVec 32 :=
  let n : BitVec 32 := Scalar.select (IntOp.cmpi .eq 128#32 0#32) 1#32 128#32
  let r := IntOp.remsi .host s n
  Scalar.select (IntOp.andi (IntOp.cmpi .ne (IntOp.cmpi .slt r 0#32) (IntOp.cmpi .slt n 0#32)) (IntOp.cmpi .ne r 0#32))
    (IntOp.addi r n) r

theorem fmod_pos : ∀ k : Fin 256, fmod (BitVec.ofNat 32 k.val) = BitVec.ofNat 32 (k.val % 128) := by decide +kernel
theorem fmod_neg : ∀ k : Fin 256, fmod (BitVec.ofNat 32 k.val - 128#32) = BitVec.ofNat 32 (k.val % 128) := by decide +kernel

theorem fmod_add (a b : Fin 128) :
    fmod (IntOp.addi (BitVec.ofNat 32 a.val) (BitVec.ofNat 32 b.val)) = BitVec.ofNat 32 ((a.val + b.val) % 128) := by
  have h : IntOp.addi (BitVec.ofNat 32 a.val) (BitVec.ofNat 32 b.val) = BitVec.ofNat 32 (a.val + b.val) :=
    (BitVec.ofNat_add ..).symm
  rw [h]
  exact fmod_pos ⟨a.val + b.val, by omega⟩
theorem fmod_sub (a b : Fin 128) :
    fmod (IntOp.subi (BitVec.ofNat 32 b.val) (BitVec.ofNat 32 a.val)) = BitVec.ofNat 32 ((b.val + 128 - a.val) % 128) := by
  have e : BitVec.ofNat 32 b.val + 128#32 = BitVec.ofNat 32 (b.val + 128 - a.val) + BitVec.ofNat 32 a.val := by
    rw [← BitVec.ofNat_add, ← BitVec.ofNat_add]; congr 1; omega
  have h : IntOp.subi (BitVec.ofNat 32 b.val) (BitVec.ofNat 32 a.val) = BitVec.ofNat 32 (b.val + 128 - a.val) - 128#32 := by
    show BitVec.ofNat 32 b.val - BitVec.ofNat 32 a.val = _
    refine BitVec.eq_sub_iff_add_eq.2 ?_
    rw [BitVec.sub_eq_add_neg, BitVec.add_assoc, BitVec.add_comm (-_), ← BitVec.add_assoc, e, BitVec.add_assoc,
      ← BitVec.sub_eq_add_neg, BitVec.sub_self, BitVec.add_zero]
  rw [h]
  exact fmod_neg ⟨b.val + 128 - a.val, by omega⟩

/-- The array of `(row + column) mod 128`. -/
theorem sumIdx : R2 (val_main_v12 (F := Ideal)) fun a b => BitVec.ofNat 32 ((a + b) % 128) := fun i =>
  fmod_add (i 0) (i 1)
theorem sumIdx' : R2 (val_main_v94 (F := Ideal)) fun a b => BitVec.ofNat 32 ((a + b) % 128) := fun i =>
  fmod_add (i 0) (i 1)
/-- The array of `(column - row) mod 128`. -/
theorem diffIdx : R2 (val_main_v25 (F := Ideal)) fun a b => BitVec.ofNat 32 ((b + 128 - a) % 128) := fun i =>
  fmod_sub (i 0) (i 1)
theorem diffIdx' : R2 (val_main_v108 (F := Ideal)) fun a b => BitVec.ofNat 32 ((b + 128 - a) % 128) := fun i =>
  fmod_sub (i 0) (i 1)

/-! ## Lookup along a row -/

/-- The lookup along the last axis by an array of start indices: an index outside the row gives a constant. -/
def lookupAt (x : S4x96x128x128.Idx → EReal) (u : S4x96x128x128x1.Idx → BitVec 32) (z : S4x96x128x128.Idx → EReal) :
    S4x96x128x128.Idx → EReal :=
  select (Host.reduce IntOp.andi (andi (cmpi .sge u fun _ => 0#32) (cmpi .sle u fun _ => 127#32)) (constantI S_ 1 1#1)
      reducesTo_S4x96x128x128x1_S4x96x128x128_d4 h_S_)
    (Host.gather gather_S4x96x128x128_S4x96x128x128x1_S4x96x128x128_n_3_012_012_3_4_1111 x u) z

/-- The start indices of the lookup: an index below zero counts from the end. -/
def starts (t : S4x96x128x128.Idx → BitVec 32) : S4x96x128x128x1.Idx → BitVec 32 :=
  shapeCast S4x96x128x128x1 (select (cmpi .slt t fun _ => 0#32) (addi t fun _ => 128#32) t)
    shapeCasts_S4x96x128x128_S4x96x128x128x1

theorem small_index : ∀ g : Fin 128, IntOp.cmpi .slt (BitVec.ofNat 32 g.val) 0#32 ≠ 1#1
    ∧ IntOp.andi (IntOp.cmpi .sge (BitVec.ofNat 32 g.val) 0#32) (IntOp.cmpi .sle (BitVec.ofNat 32 g.val) 127#32) = 1#1
    ∧ min (BitVec.ofNat 32 g.val).toInt.toNat 127 = g.val := by decide +kernel

/-- Indices inside the row are their own start indices. -/
theorem starts_read {t : S4x96x128x128.Idx → BitVec 32} {g : ℕ → ℕ → ℕ} (hg : ∀ a b, g a b < 128)
    (ht : R4 t fun _ _ a b => BitVec.ofNat 32 (g a b)) (i : S4x96x128x128x1.Idx) :
    starts t i = BitVec.ofNat 32 (g (i 2).val (i 3).val) := by
  have hk : ∃ k : S4x96x128x128.Idx, (k 0).val = (i 0).val ∧ (k 1).val = (i 1).val ∧ (k 2).val = (i 2).val
      ∧ (k 3).val = (i 3).val :=
    ⟨fun | ⟨0, _⟩ => i 0 | ⟨1, _⟩ => i 1 | ⟨2, _⟩ => i 2 | ⟨3, _⟩ => i 3, rfl, rfl, rfl, rfl⟩
  obtain ⟨k, h0, h1, h2, h3⟩ := hk
  refine (shapeCast_apply _ _ i k ?_).trans ?_
  · have h4 : (i 4).val < 1 := (i 4).isLt
    rw [Shape.rowMajor_val_five, Shape.rowMajor_val_four]
    show (((k 0).val * 96 + (k 1).val) * 128 + (k 2).val) * 128 + (k 3).val
      = ((((i 0).val * 96 + (i 1).val) * 128 + (i 2).val) * 128 + (i 3).val) * 1 + (i 4).val
    omega
  · have e : t k = BitVec.ofNat 32 (g (i 2).val (i 3).val) := by
      rw [← h2, ← h3]; exact ht k
    show (if IntOp.cmpi .slt (t k) 0#32 = 1#1 then _ else t k) = _
    rw [e]
    exact if_neg (small_index ⟨_, hg _ _⟩).1

/-- The element that the lookup reads. -/
theorem lookup_index (j : S4x96x128x128.Idx) (u : S4x96x128x128x1.Idx → BitVec 32) (n : ℕ)
    (h : ∀ i : S4x96x128x128x1.Idx, (i 2).val = (j 2).val → (i 3).val = (j 3).val → min (u i).toInt.toNat 127 = n) :
    let k := gather_S4x96x128x128_S4x96x128x128x1_S4x96x128x128_n_3_012_012_3_4_1111.operandIdx j u
    (k 0).val = (j 0).val ∧ (k 1).val = (j 1).val ∧ (k 2).val = (j 2).val ∧ (k 3).val = n := by
  have hb : ∀ a : Fin 4, (ha : a ∈ ([0, 1, 2] : List (Fin 4))) →
      (gather_S4x96x128x128_S4x96x128x128x1_S4x96x128x128_n_3_012_012_3_4_1111.operandIdx j u a).val = (j a).val := by
    intro a ha
    let d := gather_S4x96x128x128_S4x96x128x128x1_S4x96x128x128_n_3_012_012_3_4_1111
    show d.start j u a + d.batchCoord j a + d.offCoord j a = _
    rw [d.start_batching j u a ha, d.offCoord_eq_zero j a (fun h => ((d.mem_sKept a).1 h).2 ha), Nat.zero_add,
      Nat.add_zero]
    unfold GatherDims.batchCoord
    refine Eq.trans (dif_pos (show a ∈ d.operandBatchingDims from ha)) ?_
    unfold GatherDims.siCoord
    fin_cases a
    · rfl
    · rfl
    · rfl
    · exact absurd ha (by decide)
  refine ⟨hb 0 (by decide), hb 1 (by decide), hb 2 (by decide), ?_⟩
  · show GatherDims.start _ j u 3 + 0 + 0 = _
    unfold GatherDims.start
    rw [dif_pos (by decide)]
    exact h _ rfl rfl

/-- The lookup by an array of indices inside the row. -/
theorem lookup_read {x : S4x96x128x128.Idx → EReal} {t : S4x96x128x128.Idx → BitVec 32} {z : S4x96x128x128.Idx → EReal}
    {f : ℕ → ℕ → ℕ → ℕ → EReal} {g : ℕ → ℕ → ℕ} (hg : ∀ a b, g a b < 128) (hx : R4 x f)
    (ht : R4 t fun _ _ a b => BitVec.ofNat 32 (g a b)) : R4 (lookupAt x (starts t) z) fun b c i j => f b c i (g i j) := by
  intro i
  have hm : Host.reduce IntOp.andi (andi (cmpi .sge (starts t) fun _ => 0#32) (cmpi .sle (starts t) fun _ => 127#32))
      (constantI S_ 1 1#1) reducesTo_S4x96x128x128x1_S4x96x128x128_d4 h_S_ i = 1#1 := by
    refine Host.reduce_andi_one _ _ _ _ i rfl fun k => ?_
    show IntOp.andi (IntOp.cmpi .sge (starts t k) 0#32) (IntOp.cmpi .sle (starts t k) 127#32) = 1#1
    rw [starts_read hg ht]
    exact (small_index ⟨_, hg _ _⟩).2.1
  have he : lookupAt x (starts t) z i = Scalar.select (Host.reduce IntOp.andi (andi (cmpi .sge (starts t) fun _ => 0#32)
      (cmpi .sle (starts t) fun _ => 127#32)) (constantI S_ 1 1#1) reducesTo_S4x96x128x128x1_S4x96x128x128_d4 h_S_ i)
      (x (gather_S4x96x128x128_S4x96x128x128x1_S4x96x128x128_n_3_012_012_3_4_1111.operandIdx i (starts t))) (z i) := by
    unfold lookupAt Host.gather; rfl
  rw [he, hm]
  refine (ValueIdx.select_one _ _).trans ?_
  obtain ⟨h0, h1, h2, h3⟩ := lookup_index i (starts t) (g (i 2).val (i 3).val) fun k e2 e3 => by
    rw [starts_read hg ht, e2, e3]
    exact (small_index ⟨_, hg _ _⟩).2.2
  refine (hx _).trans ?_
  rw [h0, h1, h2, h3]

end Scan
-- ==== Proof.RefScan.lean ====
/-
  The scanned lines of the reference. Each image is read along eight lines of 16384 pixels: by rows, by columns, by
  diagonals, by antidiagonals, and each of the four backwards. Along a line, every pixel is multiplied with the gate of
  its squared distance from the pixel before it; the first pixel of a line is compared with zero.
-/
module

public import proofs.«01_k».proof.Proof.Layout
public import proofs.«01_k».proof.Proof.Gate
public import proofs.«01_k».proof.Proof.Distance
public import proofs.«01_k».proof.Proof.RefIndex

@[expose] public section

set_option maxRecDepth 16384

noncomputable section

namespace Scan

open Idealize.ShloMosaic Cert.ReferenceIdeal Cert.ReferenceIdeal.Gen Cert.ReferenceIdeal.Read

/-- The row of the pixel at place `l` of line `p`. -/
def row : ℕ → ℕ → ℕ
  | 0, l => l / 128
  | 1, l => l % 128
  | 2, l => (16384 - 1 - l) / 128
  | 3, l => (16384 - 1 - l) % 128
  | 4, l => l % 128
  | 5, l => l % 128
  | 6, l => (16384 - 1 - l) % 128
  | _, l => (16384 - 1 - l) % 128

/-- The column of the pixel at place `l` of line `p`. -/
def col : ℕ → ℕ → ℕ
  | 0, l => l % 128
  | 1, l => l / 128
  | 2, l => (16384 - 1 - l) % 128
  | 3, l => (16384 - 1 - l) / 128
  | 4, l => (l % 128 + l / 128) % 128
  | 5, l => (l / 128 + 128 - l % 128) % 128
  | 6, l => ((16384 - 1 - l) % 128 + (16384 - 1 - l) / 128) % 128
  | _, l => ((16384 - 1 - l) / 128 + 128 - (16384 - 1 - l) % 128) % 128

/-- The squared distance that gates the pixel at place `l` of line `p`. -/
def leap (X : ℕ → ℕ → ℕ → EReal) (p l : ℕ) : EReal :=
  if l = 0 then norm X (row p l) (col p l) else dist X (row p l) (col p l) (row p (l - 1)) (col p (l - 1))

theorem leap_nonneg (X : ℕ → ℕ → ℕ → EReal) (p l : ℕ) : 0 ≤ leap X p l := by
  unfold leap; split_ifs
  · exact norm_nonneg _ _ _
  · exact dist_nonneg _ _ _ _ _

/-- The same squared distance, as a sum of squared differences from the pixel before. -/
theorem leap_eq (X : ℕ → ℕ → ℕ → EReal) (p l : ℕ) :
    (∑ c : Fin 96, (X c.val (row p l) (col p l) - if l = 0 then 0 else X c.val (row p (l - 1)) (col p (l - 1)))
      * (X c.val (row p l) (col p l) - if l = 0 then 0 else X c.val (row p (l - 1)) (col p (l - 1)))) = leap X p l := by
  unfold leap norm dist
  by_cases h : l = 0
  · simp only [if_pos h, sub_zero]
  · simp only [if_neg h]

/-- The gated pixel at place `l` of line `p`, channel `c`. -/
def gated (X : ℕ → ℕ → ℕ → EReal) (p c l : ℕ) : EReal := X c (row p l) (col p l) * gate (leap X p l)

section
variable {x : S4x96x128x128.Idx → EReal} {X : ℕ → ℕ → ℕ → ℕ → EReal}

/-- Each image with row `i` turned by `i` places, by diagonals. -/
theorem diagonals (hx : R4 x X) : R4 (val_main_v15 (F := Ideal) x) fun b c i j => X b c i ((i + j) % 128) :=
  lookup_read (t := val_main_v14 (F := Ideal)) (z := val_main_call1_v14 (F := Ideal)) (g := fun i j => (i + j) % 128)
    (fun _ _ => Nat.mod_lt _ (by decide)) hx fun i => (val_main_v14_apply i).trans ((val_main_v13_apply _).trans (sumIdx _))

/-- Each image with row `i` turned by `i` places the other way, by antidiagonals. -/
theorem antidiagonals (hx : R4 x X) : R4 (val_main_v28 (F := Ideal) x) fun b c i j => X b c i ((j + 128 - i) % 128) :=
  lookup_read (t := val_main_v27 (F := Ideal)) (z := val_main_call3_v14 (F := Ideal)) (g := fun i j => (j + 128 - i) % 128)
    (fun _ _ => Nat.mod_lt _ (by decide)) hx fun i => (val_main_v27_apply i).trans ((val_main_v26_apply _).trans (diffIdx _))

theorem line0 (hx : R4 x X) : R3 (val_main_v0 (F := Ideal) x) fun b c l => X b c (row 0 l) (col 0 l) :=
  R4.merge shapeCasts_S4x96x128x128_S4x96x16384 (by norm_num) hx
theorem line1 (hx : R4 x X) : R3 (val_main_v2 (F := Ideal) x) fun b c l => X b c (row 1 l) (col 1 l) :=
  R4.merge shapeCasts_S4x96x128x128_S4x96x16384 (by norm_num)
    (R4.swap transposes_S4x96x128x128_S4x96x128x128_0_1_3_2 hx)
theorem line4 (hx : R4 x X) : R3 (val_main_v17 (F := Ideal) x) fun b c l => X b c (row 4 l) (col 4 l) :=
  R4.merge shapeCasts_S4x96x128x128_S4x96x16384 (by norm_num)
    (R4.swap transposes_S4x96x128x128_S4x96x128x128_0_1_3_2 (diagonals hx))
theorem line5 (hx : R4 x X) : R3 (val_main_v30 (F := Ideal) x) fun b c l => X b c (row 5 l) (col 5 l) :=
  R4.merge shapeCasts_S4x96x128x128_S4x96x16384 (by norm_num)
    (R4.swap transposes_S4x96x128x128_S4x96x128x128_0_1_3_2 (antidiagonals hx))

theorem line2 (hx : R4 x X) : R3 (val_main_v3 (F := Ideal) x) fun b c l => X b c (row 2 l) (col 2 l) :=
  (line0 hx).backwards
theorem line3 (hx : R4 x X) : R3 (val_main_v4 (F := Ideal) x) fun b c l => X b c (row 3 l) (col 3 l) :=
  (line1 hx).backwards
theorem line6 (hx : R4 x X) : R3 (val_main_v31 (F := Ideal) x) fun b c l => X b c (row 6 l) (col 6 l) :=
  (line4 hx).backwards
theorem line7 (hx : R4 x X) : R3 (val_main_v32 (F := Ideal) x) fun b c l => X b c (row 7 l) (col 7 l) :=
  (line5 hx).backwards

/-- The eight lines, one after the other. -/
theorem eight_lines (hx : R4 x X) : R4 (val_main_v41 (F := Ideal) x) fun b p c l => X b c (row p l) (col p l) := by
  have h0 : R4 (val_main_v33 (F := Ideal) x) fun b _ c l => X b c (row 0 l) (col 0 l) :=
    R3.lift₁ bcast_S4x96x16384_S4x1x96x16384_0_2_3 (line0 hx)
  have h1 : R4 (val_main_v34 (F := Ideal) x) fun b _ c l => X b c (row 1 l) (col 1 l) :=
    R3.lift₁ bcast_S4x96x16384_S4x1x96x16384_0_2_3 (line1 hx)
  have h2 : R4 (val_main_v35 (F := Ideal) x) fun b _ c l => X b c (row 2 l) (col 2 l) :=
    R3.lift₁ bcast_S4x96x16384_S4x1x96x16384_0_2_3 (line2 hx)
  have h3 : R4 (val_main_v36 (F := Ideal) x) fun b _ c l => X b c (row 3 l) (col 3 l) :=
    R3.lift₁ bcast_S4x96x16384_S4x1x96x16384_0_2_3 (line3 hx)
  have h4 : R4 (val_main_v37 (F := Ideal) x) fun b _ c l => X b c (row 4 l) (col 4 l) :=
    R3.lift₁ bcast_S4x96x16384_S4x1x96x16384_0_2_3 (line4 hx)
  have h5 : R4 (val_main_v38 (F := Ideal) x) fun b _ c l => X b c (row 5 l) (col 5 l) :=
    R3.lift₁ bcast_S4x96x16384_S4x1x96x16384_0_2_3 (line5 hx)
  have h6 : R4 (val_main_v39 (F := Ideal) x) fun b _ c l => X b c (row 6 l) (col 6 l) :=
    R3.lift₁ bcast_S4x96x16384_S4x1x96x16384_0_2_3 (line6 hx)
  have h7 : R4 (val_main_v40 (F := Ideal) x) fun b _ c l => X b c (row 7 l) (col 7 l) :=
    R3.lift₁ bcast_S4x96x16384_S4x1x96x16384_0_2_3 (line7 hx)
  exact R4.eight' concatenates_S4x1x96x16384_S4x1x96x16384_S4x1x96x16384_S4x1x96x16384_S4x1x96x16384_S4x1x96x16384_S4x1x96x16384_S4x1x96x16384_S4x8x96x16384_d1
    h0 h1 h2 h3 h4 h5 h6 h7

/-- The value put in front of every line is zero. -/
theorem front_zero : val_main_call4_v0 (F := Ideal) (Shape.Idx.first h_S_) = (0 : EReal) := by
  show (((0#32 : BitVec 32).toInt : ℝ) : EReal) = 0
  simp

/-- The pixel before the one at place `l`, or zero at the start of a line. -/
theorem before (hx : R4 x X) : R4 (val_main_v43 (F := Ideal) x) fun b p c l =>
    if l = 0 then 0 else X b c (row p (l - 1)) (col p (l - 1)) := by
  refine (R4.slice 0 0 0 0 slices_S4x8x96x16385_S4x8x96x16384_0_0_0_0
    ((eight_lines hx).front pads_S4x8x96x16384_S4x8x96x16385_000_000_000_100 h_S_ rfl (v := val_main_call4_v0 (F := Ideal)))).congr
    fun b p c l _ _ _ _ => ?_
  simp only [Nat.zero_add, front_zero]

/-- The squared distances along the lines. -/
theorem leaps (hx : R4 x X) : R3 (val_main_v46 (F := Ideal) x) fun b p l => leap (X b) p l := by
  intro i
  refine (val_main_v46_apply x i).trans ?_
  have h0 : val_main_cst (F := Ideal) (Shape.Idx.first h_S_) = (0 : EReal) := Ideal.ofBits_zero_f32
  rw [h0, zero_add]
  have hd : R4 (val_main_v44 (F := Ideal) x) _ := R4.map₂ (fun a b : EReal => a - b) (eight_lines hx) (before hx)
  have hs : R4 (val_main_v45 (F := Ideal) x) _ := R4.map₂ (fun a b : EReal => a * b) hd hd
  exact (Finset.sum_congr rfl fun k _ => hs _).trans (leap_eq (X (i 0).val) (i 1).val (i 2).val)

/-- The gates along the lines. -/
theorem gates (hx : R4 x X) : R4 (val_main_v55 (F := Ideal) x) fun b p _ l => gate (leap (X b) p l) := fun i => by
  have h47 : R4 (val_main_v47 (F := Ideal) x) fun b p _ l => leap (X b) p l :=
    R3.lift₂ bcast_S4x8x16384_S4x8x1x16384_0_1_3 (leaps hx)
  have h54 : val_main_v54 (F := Ideal) i = c02 := (val_main_v54_apply _).trans (val_main_cst_4_apply _)
  have h52 : val_main_v52 (F := Ideal) i = c08 := (val_main_v52_apply _).trans (val_main_cst_3_apply _)
  have h48 : val_main_v48 (F := Ideal) i = eps := (val_main_v48_apply _).trans (val_main_cst_2_apply _)
  rw [val_main_v55_apply, val_main_v53_apply, val_main_v51_apply, val_main_v50_apply, val_main_v49_apply, h47 i, h54, h52, h48]
  rfl

theorem gates' (hx : R4 x X) : R4 (val_main_v56 (F := Ideal) x) fun b p _ l => gate (leap (X b) p l) :=
  R4.repeat₂ bcast_S4x8x1x16384_S4x8x96x16384_0_1_2_3 (gates hx)

/-- The gated lines. -/
theorem gateds (hx : R4 x X) : R4 (val_main_v57 (F := Ideal) x) fun b p c l => gated (X b) p c l :=
  R4.map₂ (fun a b : EReal => a * b) (eight_lines hx) (gates' hx)

end

end Scan
-- ==== Proof.RefSort.lean ====
/-
  The inverse of a permutation of each row, as the reference computes it: sort the row's values carrying the positions.
-/
module

public import proofs.«01_k».proof.Proof.Gen.ReferenceIdeal.Read
public import Idealize.ShloMosaic.Lib.SortFacts
public import proofs.«01_k».proof.Proof.Reads

@[expose] public section

noncomputable section

namespace Scan

open Idealize.ShloMosaic Cert.ReferenceIdeal Cert.ReferenceIdeal.Gen Cert.ReferenceIdeal.Read

theorem toInt_small : ∀ a : Fin 128, (BitVec.ofNat 32 a.val).toInt = (a.val : ℤ) := by decide +kernel

/-- The comparison of two words below 128. -/
theorem slt_small (a b : Fin 128) : IntOp.cmpi .slt (BitVec.ofNat 32 a.val) (BitVec.ofNat 32 b.val) = 1#1 ↔ a < b := by
  have h : IntOp.cmpi .slt (BitVec.ofNat 32 a.val) (BitVec.ofNat 32 b.val) = BitVec.ofBool (decide (a < b)) := by
    show BitVec.ofBool (BitVec.slt _ _) = _
    rw [BitVec.slt_eq_decide, toInt_small, toInt_small]
    congr 1
    exact decide_eq_decide.2 (by rw [Int.ofNat_lt]; exact Iff.rfl)
  rw [h]
  by_cases e : a < b
  · simp [e]
  · simp only [e, decide_false]; exact ⟨fun h => absurd h (by decide), fun h => h.elim⟩

/-- Sorting positions by the values of a permutation lists the positions in the order of its inverse. -/
theorem sortedFrom_inverse (v r : Fin 128 → Fin 128) (hr : ∀ k, v (r k) = k) (before : Fin 128 → Fin 128 → Bool)
    (hb : ∀ k k', before k k' = true ↔ v k < v k') : sortedFrom before = r := by
  have hv : Function.Injective v := Finite.injective_iff_surjective.2 fun k => ⟨r k, hr k⟩
  have hf : ∀ k k', before k k' = false ↔ v k' ≤ v k := fun k k' => by
    rw [← Bool.not_eq_true, hb, not_lt]
  have hm : StrictMono fun k => v (sortedFrom before k) := fun i j hij =>
    lt_of_le_of_ne ((hf _ _).1 (sortedFrom_noInversion before before
        (fun a b h => (hf _ _).2 ((hb _ _).1 h).le) (fun a b h => h)
        (fun a b c h h' => (hf _ _).2 (((hf _ _).1 h').trans ((hf _ _).1 h))) i j hij))
      fun e => hij.ne (sortedFrom_injective before (hv e))
  funext k
  exact hv ((le_antisymm hm.apply_le hm.le_apply).trans (hr k).symm)

/-- Sorting each row of a permutation array, carrying the positions, leaves the inverse permutations. -/
theorem argsort_read {x y : S128x128.Idx → BitVec 32} (g r : Fin 128 → Fin 128 → Fin 128) (hr : ∀ a k, g a (r a k) = k)
    (hx : ∀ i : S128x128.Idx, x i = BitVec.ofNat 32 (g (i 0) (i 1)).val)
    (hy : ∀ i : S128x128.Idx, y i = BitVec.ofNat 32 (i 1).val) (j : S128x128.Idx) :
    (Host.sort2 S128x128 1 comparator_i32_i32_d1 x y).2 j = BitVec.ofNat 32 (r (j 0) (j 1)).val := by
  have hd : 1 < S128x128.rank := by decide
  unfold Host.sort2
  rw [dif_pos hd]
  refine (hy _).trans ?_
  have h1 : ∀ k : Fin 128, (j.along ⟨1, hd⟩ k) 1 = k := fun k => Function.update_self ..
  have h0 : ∀ k : Fin 128, (j.along ⟨1, hd⟩ k) 0 = j 0 := fun k =>
    Function.update_of_ne (fun h => absurd (congrArg Fin.val h) (by decide : (0 : ℕ) ≠ 1)) ..
  have hk : ∀ k : Fin 128, x (j.along ⟨1, hd⟩ k) = BitVec.ofNat 32 (g (j 0) k).val := fun k =>
    (hx _).trans (congrArg₂ (fun a b : Fin 128 => BitVec.ofNat 32 (g a b).val) (h0 k) (h1 k))
  refine (congrArg (fun a : Fin 128 => BitVec.ofNat 32 a.val) (h1 _)).trans ?_
  refine congrArg (fun f : Fin 128 → Fin 128 => BitVec.ofNat 32 (f (j 1)).val) ?_
  refine sortedFrom_inverse (g (j 0)) (r (j 0)) (hr (j 0)) _ fun k k' => ?_
  show (IntOp.cmpi .slt (x (j.along ⟨1, hd⟩ k)) (x (j.along ⟨1, hd⟩ k')) == 1#1) = true ↔ _
  rw [beq_iff_eq]
  exact (congrArg₂ (fun a b => IntOp.cmpi .slt a b = 1#1) (hk k) (hk k')).to_iff.trans (slt_small _ _)

end Scan
-- ==== Proof.RefMerge.lean ====
/-
  What the reference computes. The eight gated lines are brought back to image order and added; the sum is mixed across
  channels and added to the input.
-/
module

public import proofs.«01_k».proof.Proof.RefScan
public import proofs.«01_k».proof.Proof.RefSort

@[expose] public section

set_option maxRecDepth 16384

noncomputable section

namespace Scan

open Idealize.ShloMosaic Cert.ReferenceIdeal Cert.ReferenceIdeal.Gen Cert.ReferenceIdeal.Read

/-- Line `p` and the same line read backwards, both gated, at place `l` of line `p`. -/
def both (X : ℕ → ℕ → ℕ → EReal) (p c l : ℕ) : EReal := gated X p c l + gated X (p + 2) c (16384 - 1 - l)

/-- The eight gated lines at the pixel `(i, j)`, added. -/
def merged (X : ℕ → ℕ → ℕ → EReal) (c i j : ℕ) : EReal :=
  (both X 0 c (i * 128 + j) + both X 1 c (j * 128 + i))
    + (both X 4 c ((j + 128 - i) % 128 * 128 + i) + both X 5 c ((j + i) % 128 * 128 + i))

/-- Sorting the diagonal numbers of a row leaves, for each diagonal, the column where the row meets it. -/
theorem diagonal_column : R2 (val_main_v95 (F := Ideal)) fun a k => BitVec.ofNat 32 ((k + 128 - a) % 128) := fun i =>
  argsort_read (fun a b => ⟨(a.val + b.val) % 128, Nat.mod_lt _ (by decide)⟩)
    (fun a k => ⟨(k.val + 128 - a.val) % 128, Nat.mod_lt _ (by decide)⟩)
    (fun a k => Fin.ext (by have := a.isLt; have := k.isLt; show (a.val + (k.val + 128 - a.val) % 128) % 128 = k.val; omega))
    sumIdx' val_main_call6_v0_apply i

/-- Sorting the antidiagonal numbers of a row leaves, for each antidiagonal, the column where the row meets it. -/
theorem antidiagonal_column : R2 (val_main_v109 (F := Ideal)) fun a k => BitVec.ofNat 32 ((k + a) % 128) := fun i =>
  argsort_read (fun a b => ⟨(b.val + 128 - a.val) % 128, Nat.mod_lt _ (by decide)⟩)
    (fun a k => ⟨(k.val + a.val) % 128, Nat.mod_lt _ (by decide)⟩)
    (fun a k => Fin.ext (by have := a.isLt; have := k.isLt; show ((k.val + a.val) % 128 + 128 - a.val) % 128 = k.val; omega))
    diffIdx' val_main_call9_v0_apply i

section
variable {x : S4x96x128x128.Idx → EReal} {X : ℕ → ℕ → ℕ → ℕ → EReal}

/-- One of the eight gated lines. -/
theorem piece (hx : R4 x X) (p : ℕ) (hs : S4x8x96x16384.Slices ![0, p, 0, 0] S4x1x96x16384) :
    R3 (shapeCast S4x96x16384 (extractStridedSlice S4x1x96x16384 ![0, p, 0, 0] (val_main_v57 (F := Ideal) x) hs)
      shapeCasts_S4x1x96x16384_S4x96x16384) fun b c l => gated (X b) p c l :=
  (R4.squeeze shapeCasts_S4x1x96x16384_S4x96x16384 (R4.slice 0 p 0 0 hs (gateds hx))).congr fun b c l _ _ _ => by
    simp only [Nat.zero_add, Nat.add_zero]

/-- Two lines added, the second read backwards. -/
theorem pair {y z : S4x96x16384.Idx → EReal} {f g : ℕ → ℕ → ℕ → EReal} (hy : R3 y f) (hz : R3 z g) :
    R3 (fun i => y i + Host.reverse [2] z i) fun b c l => f b c l + g b c (16384 - 1 - l) :=
  R3.map₂ (fun a b : EReal => a + b) hy hz.backwards

theorem pair0 (hx : R4 x X) : R3 (val_main_v63 (F := Ideal) x) fun b c l => both (X b) 0 c l :=
  pair (piece hx 0 slices_S4x8x96x16384_S4x1x96x16384_0_0_0_0) (piece hx 2 slices_S4x8x96x16384_S4x1x96x16384_0_2_0_0)
theorem pair1 (hx : R4 x X) : R3 (val_main_v69 (F := Ideal) x) fun b c l => both (X b) 1 c l :=
  pair (piece hx 1 slices_S4x8x96x16384_S4x1x96x16384_0_1_0_0) (piece hx 3 slices_S4x8x96x16384_S4x1x96x16384_0_3_0_0)
theorem pair4 (hx : R4 x X) : R3 (val_main_v80 (F := Ideal) x) fun b c l => both (X b) 4 c l :=
  pair (piece hx 4 slices_S4x8x96x16384_S4x1x96x16384_0_4_0_0) (piece hx 6 slices_S4x8x96x16384_S4x1x96x16384_0_6_0_0)
theorem pair5 (hx : R4 x X) : R3 (val_main_v86 (F := Ideal) x) fun b c l => both (X b) 5 c l :=
  pair (piece hx 5 slices_S4x8x96x16384_S4x1x96x16384_0_5_0_0) (piece hx 7 slices_S4x8x96x16384_S4x1x96x16384_0_7_0_0)

/-- Lines read by columns, as images. -/
theorem upright {y : S4x96x16384.Idx → EReal} {f : ℕ → ℕ → ℕ → EReal} (h : R3 y f) :
    R4 (transpose S4x96x128x128 [0, 1, 3, 2] (shapeCast S4x96x128x128 y shapeCasts_S4x96x16384_S4x96x128x128)
      transposes_S4x96x128x128_S4x96x128x128_0_1_3_2) fun b c i j => f b c (j * 128 + i) :=
  R4.swap transposes_S4x96x128x128_S4x96x128x128_0_1_3_2
    (R3.split shapeCasts_S4x96x16384_S4x96x128x128 (by norm_num) h)

/-- The lines by rows and by columns, in image order. -/
theorem straight (hx : R4 x X) : R4 (val_main_v74 (F := Ideal) x) fun b c i j =>
    both (X b) 0 c (i * 128 + j) + both (X b) 1 c (j * 128 + i) := by
  have h72 : R3 (val_main_v72 (F := Ideal) x) fun b c l => both (X b) 1 c (l % 128 * 128 + l / 128) :=
    R4.merge shapeCasts_S4x96x128x128_S4x96x16384 (by norm_num) (upright (pair1 hx))
  have h73 : R3 (val_main_v73 (F := Ideal) x) fun b c l => both (X b) 0 c l + both (X b) 1 c (l % 128 * 128 + l / 128) :=
    R3.map₂ (fun a b : EReal => a + b) (pair0 hx) h72
  have h74 : R4 (val_main_v74 (F := Ideal) x) fun b c i j => both (X b) 0 c (i * 128 + j)
      + both (X b) 1 c ((i * 128 + j) % 128 * 128 + (i * 128 + j) / 128) :=
    R3.split shapeCasts_S4x96x16384_S4x96x128x128 (by norm_num) h73
  refine h74.congr fun b c i j _ _ hi hj => ?_
  have hi' : i < 128 := hi
  have hj' : j < 128 := hj
  have e : (i * 128 + j) % 128 * 128 + (i * 128 + j) / 128 = j * 128 + i := by omega
  show _ + both (X b) 1 c ((i * 128 + j) % 128 * 128 + (i * 128 + j) / 128) = _
  rw [e]

/-- The lines by diagonals, in image order. -/
theorem slanted (hx : R4 x X) : R4 (val_main_v100 (F := Ideal) x) fun b c i j =>
    both (X b) 4 c ((j + 128 - i) % 128 * 128 + i) :=
  lookup_read (t := val_main_v99 (F := Ideal)) (z := val_main_call7_v14 (F := Ideal)) (g := fun i j => (j + 128 - i) % 128)
    (fun _ _ => Nat.mod_lt _ (by decide)) (upright (pair4 hx))
    fun i => (val_main_v99_apply i).trans ((val_main_v98_apply _).trans (diagonal_column _))

/-- The lines by antidiagonals, in image order. -/
theorem slanted' (hx : R4 x X) : R4 (val_main_v114 (F := Ideal) x) fun b c i j =>
    both (X b) 5 c ((j + i) % 128 * 128 + i) :=
  lookup_read (t := val_main_v113 (F := Ideal)) (z := val_main_call10_v14 (F := Ideal)) (g := fun i j => (j + i) % 128)
    (fun _ _ => Nat.mod_lt _ (by decide)) (upright (pair5 hx))
    fun i => (val_main_v113_apply i).trans ((val_main_v112_apply _).trans (antidiagonal_column _))

/-- The eight gated lines, added in image order. -/
theorem merged_read (hx : R4 x X) : R4 (val_main_v116 (F := Ideal) x) fun b c i j => merged (X b) c i j :=
  R4.map₂ (fun a b : EReal => a + b) (straight hx) (R4.map₂ (fun a b : EReal => a + b) (slanted hx) (slanted' hx))

/-- What the reference computes at output channel `d`. -/
theorem reference_read {w : S96x96.Idx → EReal} {W : ℕ → ℕ → EReal} (hx : R4 x X) (hw : R2 w W) :
    R4 (val_main_v119 (F := Ideal) x w) fun b d i j => X b d i j + ∑ c : Fin 96, W c.val d * merged (X b) c.val i j := by
  intro i
  have h118 := (val_main_v118_apply (F := Ideal) x w i).trans (val_main_v117_apply x w (idx_main_v118 i))
  have h : val_main_v118 (F := Ideal) x w i
      = ∑ c : Fin 96, W c.val (i 1).val * merged (X (i 0).val) c.val (i 2).val (i 3).val :=
    h118.trans (Finset.sum_congr rfl fun k _ => congrArg₂ (fun a b : EReal => a * b) (hw _) (merged_read hx _))
  exact congrArg₂ (fun a b : EReal => a + b) (hx i) h

end

end Scan
-- ==== Proof.Equation.lean ====
/-
  The equation between the kernel and the reference. At every pixel, the squared distances that the kernel adds up are
  those of the eight lines of the reference through that pixel, and a pixel times the sum of eight nonnegative gates is
  the sum of the eight gated pixels.
-/
module

public import proofs.«01_k».proof.Proof.KernelBlock
public import proofs.«01_k».proof.Proof.RefMerge

@[expose] public section

noncomputable section

namespace Scan

variable (X : ℕ → ℕ → ℕ → EReal)

/-- A line starting at the pixel `(0, 0)`, against a field of the kernel. -/
theorem leap_top {f : ℕ → ℕ → EReal} {p l i j : ℕ} (hr : row p l = i) (hc : col p l = j) (h0 : l = 0 ↔ i = 0 ∧ j = 0)
    (hf : l ≠ 0 → f i j = dist X i j (row p (l - 1)) (col p (l - 1))) : leap X p l = fromTop X f i j := by
  unfold leap fromTop
  by_cases h : l = 0
  · rw [if_pos h, if_pos (h0.1 h), hr, hc, (h0.1 h).1, (h0.1 h).2]
  · rw [if_neg h, if_neg fun e => h (h0.2 e), hr, hc, hf h]

/-- A line starting in the bottom row at column `n`, against a field of the kernel. -/
theorem leap_bottom {f : ℕ → ℕ → EReal} {n p l i j : ℕ} (hr : row p l = i) (hc : col p l = j)
    (h0 : l = 0 ↔ i = 127 ∧ j = n) (hf : l ≠ 0 → f i j = dist X (row p (l - 1)) (col p (l - 1)) i j) :
    leap X p l = fromBottom X n f i j := by
  unfold leap fromBottom
  by_cases h : l = 0
  · rw [if_pos h, if_pos (h0.1 h), hr, hc, (h0.1 h).1]
  · rw [if_neg h, if_neg fun e => h (h0.2 e), hr, hc, hf h, dist_comm]

variable {i j : ℕ} (hi : i < 128) (hj : j < 128)
include hi hj

/-! ## The place of a pixel on each line -/

omit hi hj in
theorem quot (s : ℕ) {r : ℕ} (h : r < 128) : (s * 128 + r) / 128 = s := by omega

theorem place0 : row 0 (i * 128 + j) = i ∧ col 0 (i * 128 + j) = j := by
  simp only [row, col]; omega
theorem place2 : row 2 (16384 - 1 - (i * 128 + j)) = i ∧ col 2 (16384 - 1 - (i * 128 + j)) = j := by
  simp only [row, col]; omega
theorem place1 : row 1 (j * 128 + i) = i ∧ col 1 (j * 128 + i) = j := by
  simp only [row, col]; omega
theorem place3 : row 3 (16384 - 1 - (j * 128 + i)) = i ∧ col 3 (16384 - 1 - (j * 128 + i)) = j := by
  simp only [row, col]; omega
theorem place4 : row 4 ((j + 128 - i) % 128 * 128 + i) = i ∧ col 4 ((j + 128 - i) % 128 * 128 + i) = j := by
  simp only [row, col]; omega
theorem place6 : row 6 (16384 - 1 - ((j + 128 - i) % 128 * 128 + i)) = i ∧ col 6 (16384 - 1 - ((j + 128 - i) % 128 * 128 + i)) = j := by
  simp only [row, col]; omega
theorem place5 : row 5 ((j + i) % 128 * 128 + i) = i ∧ col 5 ((j + i) % 128 * 128 + i) = j := by
  have q : ((j + i) % 128 * 128 + i) / 128 = (j + i) % 128 := quot _ hi
  have r : ((j + i) % 128 * 128 + i) % 128 = i := by omega
  have t : ((j + i) % 128 + 128 - i) % 128 = j := by clear q r; omega
  simp only [row, col, q, r, t, and_self]
theorem place7 : row 7 (16384 - 1 - ((j + i) % 128 * 128 + i)) = i ∧ col 7 (16384 - 1 - ((j + i) % 128 * 128 + i)) = j := by
  have e : 16384 - 1 - (16384 - 1 - ((j + i) % 128 * 128 + i)) = ((j + i) % 128 * 128 + i) := by omega
  have q : (16384 - 1 - (16384 - 1 - ((j + i) % 128 * 128 + i))) / 128 = (j + i) % 128 := by rw [e]; exact quot _ hi
  have r : (16384 - 1 - (16384 - 1 - ((j + i) % 128 * 128 + i))) % 128 = i := by omega
  have t : ((j + i) % 128 + 128 - i) % 128 = j := by clear q r; omega
  simp only [row, col, q, r, t, and_self]

/-! ## The gates -/

/-- The line by rows. -/
theorem leap_row : leap X 0 (i * 128 + j) = fromTop X (rowField X) i j := by
  refine leap_top X (place0 hi hj).1 (place0 hi hj).2 (by omega) fun h => ?_
  simp only [rowField, row, col]
  split_ifs <;> refine dist_congr X ?_ ?_ ?_ ?_ <;> omega

/-- The line by rows backwards. -/
theorem leap_row' : leap X 2 (16384 - 1 - (i * 128 + j)) = fromBottom X 127 (rowAhead X) i j := by
  refine leap_bottom X (place2 hi hj).1 (place2 hi hj).2 (by omega) fun h => ?_
  simp only [rowAhead, rowField, row, col]
  split_ifs <;> refine dist_congr X ?_ ?_ ?_ ?_ <;> omega

/-- The line by columns. -/
theorem leap_col : leap X 1 (j * 128 + i) = fromTop X (colField X) i j := by
  refine leap_top X (place1 hi hj).1 (place1 hi hj).2 (by omega) fun h => ?_
  simp only [colField, row, col]
  split_ifs <;> refine dist_congr X ?_ ?_ ?_ ?_ <;> omega

/-- The line by columns backwards. -/
theorem leap_col' : leap X 3 (16384 - 1 - (j * 128 + i)) = fromBottom X 127 (colAhead X) i j := by
  refine leap_bottom X (place3 hi hj).1 (place3 hi hj).2 (by omega) fun h => ?_
  simp only [colAhead, colField, row, col]
  split_ifs <;> refine dist_congr X ?_ ?_ ?_ ?_ <;> omega

/-- The line by diagonals. -/
theorem leap_dia : leap X 4 ((j + 128 - i) % 128 * 128 + i) = fromTop X (diaField X) i j := by
  refine leap_top X (place4 hi hj).1 (place4 hi hj).2 (by omega) fun h => ?_
  simp only [diaField, row, col]
  split_ifs <;> refine dist_congr X ?_ ?_ ?_ ?_ <;> omega

/-- The line by diagonals backwards. -/
theorem leap_dia' : leap X 6 (16384 - 1 - ((j + 128 - i) % 128 * 128 + i)) = fromBottom X 126 (diaAhead X) i j := by
  refine leap_bottom X (place6 hi hj).1 (place6 hi hj).2 (by omega) fun h => ?_
  simp only [diaAhead, diaField, row, col]
  split_ifs <;> refine dist_congr X ?_ ?_ ?_ ?_ <;> omega

/-- The line by antidiagonals. -/
theorem leap_adi : leap X 5 ((j + i) % 128 * 128 + i) = fromTop X (adiField X) i j := by
  refine leap_top X (place5 hi hj).1 (place5 hi hj).2 (by omega) fun h => ?_
  have q : (((j + i) % 128 * 128 + i) - 1) / 128 = if i = 0 then j - 1 else (j + i) % 128 := by split_ifs <;> omega
  have r : (((j + i) % 128 * 128 + i) - 1) % 128 = if i = 0 then 127 else i - 1 := by split_ifs <;> omega
  simp only [adiField, row, col, q, r]
  split_ifs <;> refine dist_congr X ?_ ?_ ?_ ?_ <;> omega

/-- The line by antidiagonals backwards. -/
theorem leap_adi' : leap X 7 (16384 - 1 - ((j + i) % 128 * 128 + i)) = fromBottom X 0 (adiAhead X) i j := by
  refine leap_bottom X (place7 hi hj).1 (place7 hi hj).2 (by omega) fun h => ?_
  have q : (16384 - 1 - (16384 - 1 - ((j + i) % 128 * 128 + i) - 1)) / 128 = if i = 127 then (j + i) % 128 + 1 else (j + i) % 128 := by split_ifs <;> omega
  have r : (16384 - 1 - (16384 - 1 - ((j + i) % 128 * 128 + i) - 1)) % 128 = if i = 127 then 0 else i + 1 := by split_ifs <;> omega
  simp only [adiAhead, adiField, row, col, q, r]
  split_ifs <;> refine dist_congr X ?_ ?_ ?_ ?_ <;> omega

/-- The eight gated pixels of the reference are the kernel's pixel times its sum of gates. -/
theorem merged_eq (c : ℕ) : merged X c i j = X c i j * (c16 + c08 * total X i j) := by
  have place : ∀ {p l}, row p l = i ∧ col p l = j → gated X p c l = X c i j * gate (leap X p l) := fun h => by
    unfold gated; rw [h.1, h.2]
  unfold total
  rw [← leap_row X hi hj, ← leap_row' X hi hj, ← leap_col X hi hj, ← leap_col' X hi hj, ← leap_dia X hi hj,
    ← leap_dia' X hi hj, ← leap_adi X hi hj, ← leap_adi' X hi hj,
    gated_sum (X c i j) (leap_nonneg _ _ _) (leap_nonneg _ _ _) (leap_nonneg _ _ _) (leap_nonneg _ _ _)
      (leap_nonneg _ _ _) (leap_nonneg _ _ _) (leap_nonneg _ _ _) (leap_nonneg _ _ _),
    ← place (place0 hi hj), ← place (place1 hi hj), ← place (place2 hi hj), ← place (place3 hi hj), ← place (place4 hi hj),
    ← place (place5 hi hj), ← place (place6 hi hj), ← place (place7 hi hj)]
  rfl

end Scan
-- ==== Proof.lean ====
/-
  The certificate, assembled: the frames of the three programs, and the equation between the kernel's result array
  (KernelArray) and the reference's (RefMerge) at every pixel (Equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result array is what the reference computes from the same arguments. -/
theorem result_eq (x : Cert.ReferenceIdeal.S4x96x128x128.Idx → EReal) (w : Cert.ReferenceIdeal.S96x96.Idx → EReal)
    (i : Cert.ReferenceIdeal.S4x96x128x128.Idx) :
    Cert.ReferenceIdeal.Read.val_main_v119 (F := Ideal) x w i
      = Scan.result (Scan.at4 x) (Scan.at2 w) (i 0).val (i 1).val (i 2).val (i 3).val :=
  (Scan.reference_read (Scan.at4_read x) (Scan.at2_read w) i).trans
    (congrArg (Scan.at4 x (i 0).val (i 1).val (i 2).val (i 3).val + ·) (Finset.sum_congr rfl fun c _ =>
      congrArg (Scan.at2 w c.val (i 1).val * ·) (Scan.merged_eq (Scan.at4 x (i 0).val) (i 2).isLt (i 3).isLt c.val)))

/-- Kernel and reference end with the same result: the scanned and mixed images. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Scanned.final m c, Cert.KernelIdeal.Scanned.run m g,
    (θ_run _ _ _).mono (fun _ h c => ⟨(h c).1.trans ((Cert.ReferenceIdeal.Read.val_main_v119_eq _).trans (funext fun i => by
      have e0 := (hagree c).1
      have e1 := (hagree c).2
      rw [StableHlo.launchContents_devRef, StableHlo.launchContents_devRef]
      refine (congrArg₂ (fun x w => Cert.ReferenceIdeal.Read.val_main_v119 (F := Ideal) x w i) e0 e1).trans ?_
      exact result_eq _ _ i)), (h c).2.1, (h c).2.2⟩) (Cert.ReferenceIdeal.Value.run (F := Ideal) m' g')⟩

/-- The reference leaves its arguments unchanged; it declares no semaphore, so every counter is at zero. -/
theorem frame_reference : Cert.quiescent_ReferenceIdeal (hReferenceIdeal := Cert.ReferenceIdeal.Gen.facts) :=
  fun m ρ _ => (θ_run _ _ _).mono (fun r h => ⟨fun c => ⟨(h c).2.1, (h c).2.2⟩, sem_eq_zero_of_no_sems (by decide) r.2⟩)
    (Cert.ReferenceIdeal.Value.run (F := Ideal) m ρ)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frame_reference, trivial, algebraic⟩

end Cert.Proof

end
